-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_fit_KernelIdeal [hPre_indices_fit_KernelIdeal : Cert.Pre_indices_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_indices_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_indices_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_fit_ReferenceIdeal [hPre_indices_fit_ReferenceIdeal : Cert.Pre_indices_fit_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_indices_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_indices_fit_KernelIdeal [hKernelIdeal : Cert.KernelIdeal.Facts] [hPre_indices_fit_KernelIdeal : Cert.Pre_indices_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_indices_fit_ReferenceIdeal [hReferenceIdeal : Cert.ReferenceIdeal.Facts] [hPre_indices_fit_ReferenceIdeal : Cert.Pre_indices_fit_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_fit_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_indices_fit_KernelIdeal [hKernelIdeal : Cert.KernelIdeal.Facts] [hReferenceIdeal : Cert.ReferenceIdeal.Facts] [hPre_indices_fit_KernelIdeal : Cert.Pre_indices_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_fit_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![32768, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_indices_fit_KernelIdeal : Cert.Pre_indices_fit_KernelIdeal.Facts) (hPre_indices_fit_ReferenceIdeal : Cert.Pre_indices_fit_ReferenceIdeal.Facts),
    quiescent_Kernel (hKernel := hKernel)
    ∧ quiescent_KernelIdeal (hKernelIdeal := hKernelIdeal)
    ∧ quiescent_KernelIdeal_pre_indices_fit_KernelIdeal (hKernelIdeal := hKernelIdeal) (hPre_indices_fit_KernelIdeal := hPre_indices_fit_KernelIdeal)
    ∧ quiescent_ReferenceIdeal (hReferenceIdeal := hReferenceIdeal)
    ∧ quiescent_ReferenceIdeal_pre_indices_fit_ReferenceIdeal (hReferenceIdeal := hReferenceIdeal) (hPre_indices_fit_ReferenceIdeal := hPre_indices_fit_ReferenceIdeal)
    ∧ preserves_Kernel_KernelIdeal
    ∧ algebraic_KernelIdeal_ReferenceIdeal_pre_indices_fit_KernelIdeal (hKernelIdeal := hKernelIdeal) (hReferenceIdeal := hReferenceIdeal) (hPre_indices_fit_KernelIdeal := hPre_indices_fit_KernelIdeal)
-- ==== Pre_indices_fit_KernelIdeal.lean ====
abbrev S4096x512 : Shape := ⟨2, ![4096, 512]⟩
abbrev S1024 : Shape := ⟨1, ![1024]⟩
abbrev S8x1x128 : Shape := ⟨3, ![8, 1, 128]⟩
abbrev S8 : Shape := ⟨1, ![8]⟩
abbrev S_ : Shape := ⟨0, ![]⟩
abbrev S1x8x1 : Shape := ⟨3, ![1, 8, 1]⟩
abbrev S8x8x128 : Shape := ⟨3, ![8, 8, 128]⟩
abbrev S8x8 : Shape := ⟨2, ![8, 8]⟩

class Facts : Prop where
  shapeCasts_S1024_S8x1x128 : S1024.ShapeCasts S8x1x128
  bcast_S_S8 : S_.BroadcastsInDim S8 (![] : Fin 0 → Fin S8.rank)
  shapeCasts_S8_S1x8x1 : S8.ShapeCasts S1x8x1
  bcast_S8x1x128_S8x8x128_0_1_2 : S8x1x128.BroadcastsInDim S8x8x128 (![0, 1, 2] : Fin 3 → Fin S8x8x128.rank)
  bcast_S1x8x1_S8x8x128_0_1_2 : S1x8x1.BroadcastsInDim S8x8x128 (![0, 1, 2] : Fin 3 → Fin S8x8x128.rank)
  bcast_S_S1x8x1 : S_.BroadcastsInDim S1x8x1 (![] : Fin 0 → Fin S1x8x1.rank)
  natLt_1_32 : 1 < 32
  reducesTo_S8x8x128_S8x8_d2 : S8x8x128.ReducesTo [2] S8x8
  h_S_ : 0 < S_.numel
  bcast_S_S1024 : S_.BroadcastsInDim S1024 (![] : Fin 0 → Fin S1024.rank)
  bcast_S_S8x8 : S_.BroadcastsInDim S8x8 (![] : Fin 0 → Fin S8x8.rank)

variable [Facts]

def fn_part1 {F : FTy → Type} [FloatOps F] (main_arg1 : IVec S1024 32) (main_v15 : IVec S8x8 32) (main_v17 : IVec S1024 1) (main_v18 : IVec S1024 32) : IVec S1024 1 × IVec S8x8 1 :=
  let main_v19 : IVec S1024 1 := cmpi .slt main_arg1 main_v18
  let main_v20 : IVec S1024 1 := andi main_v17 main_v19
  let main_c_4 : IVec S_ 32 := constantI S_ 32 40#32
  let main_v21 : IVec S8x8 32 := broadcastInDim S8x8 ![] bcast_S_S8x8 main_c_4
  let main_v22 : IVec S8x8 1 := cmpi .sle main_v15 main_v21
  (main_v20, main_v22)

def fn {F : FTy → Type} [FloatOps F] (main_arg0 : FVec F S4096x512 .bf16) (main_arg1 : IVec S1024 32) : IVec S1024 1 × IVec S8x8 1 :=
  let main_v0 : IVec S8x1x128 32 := shapeCast S8x1x128 main_arg1 shapeCasts_S1024_S8x1x128
  let main_v1 : IVec S8 32 := iotaInDim S8 32 0
  let main_c : IVec S_ 32 := constantI S_ 32 4096#32
  let main_v2 : IVec S8 32 := broadcastInDim S8 ![] bcast_S_S8 main_c
  let main_v3 : IVec S8 32 := muli main_v1 main_v2
  let main_v4 : IVec S1x8x1 32 := shapeCast S1x8x1 main_v3 shapeCasts_S8_S1x8x1
  let main_v5 : IVec S8x8x128 32 := broadcastInDim S8x8x128 ![0, 1, 2] bcast_S8x1x128_S8x8x128_0_1_2 main_v0
  let main_v6 : IVec S8x8x128 32 := broadcastInDim S8x8x128 ![0, 1, 2] bcast_S1x8x1_S8x8x128_0_1_2 main_v4
  let main_v7 : IVec S8x8x128 1 := cmpi .sge main_v5 main_v6
  let main_c_0 : IVec S_ 32 := constantI S_ 32 4096#32
  let main_v8 : IVec S1x8x1 32 := broadcastInDim S1x8x1 ![] bcast_S_S1x8x1 main_c_0
  let main_v9 : IVec S1x8x1 32 := addi main_v4 main_v8
  let main_v10 : IVec S8x8x128 32 := broadcastInDim S8x8x128 ![0, 1, 2] bcast_S8x1x128_S8x8x128_0_1_2 main_v0
  let main_v11 : IVec S8x8x128 32 := broadcastInDim S8x8x128 ![0, 1, 2] bcast_S1x8x1_S8x8x128_0_1_2 main_v9
  let main_v12 : IVec S8x8x128 1 := cmpi .slt main_v10 main_v11
  let main_v13 : IVec S8x8x128 1 := andi main_v7 main_v12
  let main_v14 : IVec S8x8x128 32 := (extui 32 · natLt_1_32) main_v13
  let main_c_1 : IVec S_ 32 := constantI S_ 32 0#32
  let main_v15 : IVec S8x8 32 := (fun x v => Host.reduce IntOp.addi x v reducesTo_S8x8x128_S8x8_d2 h_S_) main_v14 main_c_1
  let main_c_2 : IVec S_ 32 := constantI S_ 32 0#32
  let main_v16 : IVec S1024 32 := broadcastInDim S1024 ![] bcast_S_S1024 main_c_2
  let main_v17 : IVec S1024 1 := cmpi .sge main_arg1 main_v16
  let main_c_3 : IVec S_ 32 := constantI S_ 32 32768#32
  let main_v18 : IVec S1024 32 := broadcastInDim S1024 ![] bcast_S_S1024 main_c_3
  fn_part1 (F := F) main_arg1 main_v15 main_v17 main_v18
-- ==== Pre_indices_fit_ReferenceIdeal.lean ====
abbrev S32768x512 : Shape := ⟨2, ![32768, 512]⟩
abbrev S1024 : Shape := ⟨1, ![1024]⟩
abbrev S8x1x128 : Shape := ⟨3, ![8, 1, 128]⟩
abbrev S8 : Shape := ⟨1, ![8]⟩
abbrev S_ : Shape := ⟨0, ![]⟩
abbrev S1x8x1 : Shape := ⟨3, ![1, 8, 1]⟩
abbrev S8x8x128 : Shape := ⟨3, ![8, 8, 128]⟩
abbrev S8x8 : Shape := ⟨2, ![8, 8]⟩

class Facts : Prop where
  shapeCasts_S1024_S8x1x128 : S1024.ShapeCasts S8x1x128
  bcast_S_S8 : S_.BroadcastsInDim S8 (![] : Fin 0 → Fin S8.rank)
  shapeCasts_S8_S1x8x1 : S8.ShapeCasts S1x8x1
  bcast_S8x1x128_S8x8x128_0_1_2 : S8x1x128.BroadcastsInDim S8x8x128 (![0, 1, 2] : Fin 3 → Fin S8x8x128.rank)
  bcast_S1x8x1_S8x8x128_0_1_2 : S1x8x1.BroadcastsInDim S8x8x128 (![0, 1, 2] : Fin 3 → Fin S8x8x128.rank)
  bcast_S_S1x8x1 : S_.BroadcastsInDim S1x8x1 (![] : Fin 0 → Fin S1x8x1.rank)
  natLt_1_32 : 1 < 32
  reducesTo_S8x8x128_S8x8_d2 : S8x8x128.ReducesTo [2] S8x8
  h_S_ : 0 < S_.numel
  bcast_S_S1024 : S_.BroadcastsInDim S1024 (![] : Fin 0 → Fin S1024.rank)
  bcast_S_S8x8 : S_.BroadcastsInDim S8x8 (![] : Fin 0 → Fin S8x8.rank)

variable [Facts]

def fn_part1 {F : FTy → Type} [FloatOps F] (main_arg1 : IVec S1024 32) (main_v15 : IVec S8x8 32) (main_v17 : IVec S1024 1) (main_v18 : IVec S1024 32) : IVec S1024 1 × IVec S8x8 1 :=
  let main_v19 : IVec S1024 1 := cmpi .slt main_arg1 main_v18
  let main_v20 : IVec S1024 1 := andi main_v17 main_v19
  let main_c_4 : IVec S_ 32 := constantI S_ 32 40#32
  let main_v21 : IVec S8x8 32 := broadcastInDim S8x8 ![] bcast_S_S8x8 main_c_4
  let main_v22 : IVec S8x8 1 := cmpi .sle main_v15 main_v21
  (main_v20, main_v22)

def fn {F : FTy → Type} [FloatOps F] (main_arg0 : FVec F S32768x512 .bf16) (main_arg1 : IVec S1024 32) : IVec S1024 1 × IVec S8x8 1 :=
  let main_v0 : IVec S8x1x128 32 := shapeCast S8x1x128 main_arg1 shapeCasts_S1024_S8x1x128
  let main_v1 : IVec S8 32 := iotaInDim S8 32 0
  let main_c : IVec S_ 32 := constantI S_ 32 4096#32
  let main_v2 : IVec S8 32 := broadcastInDim S8 ![] bcast_S_S8 main_c
  let main_v3 : IVec S8 32 := muli main_v1 main_v2
  let main_v4 : IVec S1x8x1 32 := shapeCast S1x8x1 main_v3 shapeCasts_S8_S1x8x1
  let main_v5 : IVec S8x8x128 32 := broadcastInDim S8x8x128 ![0, 1, 2] bcast_S8x1x128_S8x8x128_0_1_2 main_v0
  let main_v6 : IVec S8x8x128 32 := broadcastInDim S8x8x128 ![0, 1, 2] bcast_S1x8x1_S8x8x128_0_1_2 main_v4
  let main_v7 : IVec S8x8x128 1 := cmpi .sge main_v5 main_v6
  let main_c_0 : IVec S_ 32 := constantI S_ 32 4096#32
  let main_v8 : IVec S1x8x1 32 := broadcastInDim S1x8x1 ![] bcast_S_S1x8x1 main_c_0
  let main_v9 : IVec S1x8x1 32 := addi main_v4 main_v8
  let main_v10 : IVec S8x8x128 32 := broadcastInDim S8x8x128 ![0, 1, 2] bcast_S8x1x128_S8x8x128_0_1_2 main_v0
  let main_v11 : IVec S8x8x128 32 := broadcastInDim S8x8x128 ![0, 1, 2] bcast_S1x8x1_S8x8x128_0_1_2 main_v9
  let main_v12 : IVec S8x8x128 1 := cmpi .slt main_v10 main_v11
  let main_v13 : IVec S8x8x128 1 := andi main_v7 main_v12
  let main_v14 : IVec S8x8x128 32 := (extui 32 · natLt_1_32) main_v13
  let main_c_1 : IVec S_ 32 := constantI S_ 32 0#32
  let main_v15 : IVec S8x8 32 := (fun x v => Host.reduce IntOp.addi x v reducesTo_S8x8x128_S8x8_d2 h_S_) main_v14 main_c_1
  let main_c_2 : IVec S_ 32 := constantI S_ 32 0#32
  let main_v16 : IVec S1024 32 := broadcastInDim S1024 ![] bcast_S_S1024 main_c_2
  let main_v17 : IVec S1024 1 := cmpi .sge main_arg1 main_v16
  let main_c_3 : IVec S_ 32 := constantI S_ 32 32768#32
  let main_v18 : IVec S1024 32 := broadcastInDim S1024 ![] bcast_S_S1024 main_c_3
  fn_part1 (F := F) main_arg1 main_v15 main_v17 main_v18
-- ==== Kernel.lean ====
abbrev S4096x512 : Shape := ⟨2, ![4096, 512]⟩
abbrev S1024 : Shape := ⟨1, ![1024]⟩
abbrev S_ : Shape := ⟨0, ![]⟩
abbrev S8x128 : Shape := ⟨2, ![8, 128]⟩
abbrev S40 : Shape := ⟨1, ![40]⟩
abbrev S128 : Shape := ⟨1, ![128]⟩
abbrev S1x128 : Shape := ⟨2, ![1, 128]⟩
abbrev S8 : Shape := ⟨1, ![8]⟩
abbrev S8x1 : Shape := ⟨2, ![8, 1]⟩
abbrev S16x128 : Shape := ⟨2, ![16, 128]⟩
abbrev S16x1x128 : Shape := ⟨3, ![16, 1, 128]⟩
abbrev S1x40x1 : Shape := ⟨3, ![1, 40, 1]⟩
abbrev S16x40x128 : Shape := ⟨3, ![16, 40, 128]⟩
abbrev S16x40 : Shape := ⟨2, ![16, 40]⟩
abbrev S1x40 : Shape := ⟨2, ![1, 40]⟩
abbrev S16 : Shape := ⟨1, ![16]⟩
abbrev S16x1 : Shape := ⟨2, ![16, 1]⟩
abbrev S8x40 : Shape := ⟨2, ![8, 40]⟩
abbrev S320 : Shape := ⟨1, ![320]⟩
abbrev S320x1 : Shape := ⟨2, ![320, 1]⟩
abbrev S320x512 : Shape := ⟨2, ![320, 512]⟩
abbrev S1024x512 : Shape := ⟨2, ![1024, 512]⟩
abbrev S7x40x512 : Shape := ⟨3, ![7, 40, 512]⟩
abbrev S7 : Shape := ⟨1, ![7]⟩
abbrev S1 : Shape := ⟨1, ![1]⟩
abbrev S1x40x512 : Shape := ⟨3, ![1, 40, 512]⟩
abbrev S40x512 : Shape := ⟨2, ![40, 512]⟩
abbrev S128x40 : Shape := ⟨2, ![128, 40]⟩
abbrev S128x512 : Shape := ⟨2, ![128, 512]⟩

abbrev nBuf : Space → Nat
  | .hbm => 173
  | .vmem => 5
  | .smem => 0
  | _ => 0

abbrev hbmTy0_0 (i : Nat) : BufTy := match i % 128 with
  | 0 => ⟨S4096x512, .bf16⟩
  | 1 => ⟨S1024, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i1⟩
  | 19 => ⟨S_, .i32⟩
  | 20 => ⟨S_, .i1⟩
  | 21 => ⟨S_, .i1⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i1⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i1⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i1⟩
  | 62 => ⟨S_, .i32⟩
  | 63 => ⟨S_, .i1⟩
  | 64 => ⟨S_, .i1⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S8x128, .i32⟩
  | 76 => ⟨S40, .i32⟩
  | 77 => ⟨S128, .i32⟩
  | 78 => ⟨S_, .i32⟩
  | 79 => ⟨S_, .i32⟩
  | 80 => ⟨S8x128, .i32⟩
  | 81 => ⟨S8x128, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S1x128, .i32⟩
  | 96 => ⟨S128, .i32⟩
  | 97 => ⟨S1x128, .i32⟩
  | 98 => ⟨S8, .i32⟩
  | 99 => ⟨S_, .i32⟩
  | 100 => ⟨S8, .i32⟩
  | 101 => ⟨S8, .i32⟩
  | 102 => ⟨S8x1, .i32⟩
  | 103 => ⟨S8x128, .i32⟩
  | 104 => ⟨S8x128, .i32⟩
  | 105 => ⟨S8x128, .i32⟩
  | 106 => ⟨S16x128, .i32⟩
  | 107 => ⟨S_, .i32⟩
  | 108 => ⟨S16x128, .i32⟩
  | 109 => ⟨S16x128, .i1⟩
  | 110 => ⟨S_, .i32⟩
  | 111 => ⟨S16x128, .i32⟩
  | 112 => ⟨S16x128, .i1⟩
  | 113 => ⟨S16x128, .i1⟩
  | 114 => ⟨S16x128, .i32⟩
  | 115 => ⟨S_, .i32⟩
  | 116 => ⟨S_, .i32⟩
  | 117 => ⟨S16x128, .i32⟩
  | 118 => ⟨S_, .i32⟩
  | 119 => ⟨S16x128, .i32⟩
  | 120 => ⟨S16x128, .i32⟩
  | 121 => ⟨S16x1x128, .i1⟩
  | 122 => ⟨S16x1x128, .i32⟩
  | 123 => ⟨S1x40x1, .i32⟩
  | 124 => ⟨S16x40x128, .i32⟩
  | 125 => ⟨S16x40x128, .i32⟩
  | 126 => ⟨S16x40x128, .i1⟩
  | 127 => ⟨S16x40x128, .i1⟩
  | _ => ⟨S4096x512, .bf16⟩

abbrev hbmTy0_1 (i : Nat) : BufTy := match i % 128 with
  | 0 => ⟨S16x40x128, .i1⟩
  | 1 => ⟨S8x128, .i1⟩
  | 2 => ⟨S8x128, .i32⟩
  | 3 => ⟨S_, .i32⟩
  | 4 => ⟨S_, .i32⟩
  | 5 => ⟨S8x128, .i32⟩
  | 6 => ⟨S8x128, .i32⟩
  | 7 => ⟨S1x128, .i32⟩
  | 8 => ⟨S8x128, .i32⟩
  | 9 => ⟨S16x128, .i32⟩
  | 10 => ⟨S16x1x128, .i32⟩
  | 11 => ⟨S16x40x128, .i32⟩
  | 12 => ⟨S16x40x128, .i32⟩
  | 13 => ⟨S16x40x128, .i32⟩
  | 14 => ⟨S_, .i32⟩
  | 15 => ⟨S16x40, .i32⟩
  | 16 => ⟨S1x40, .i32⟩
  | 17 => ⟨S16x128, .i32⟩
  | 18 => ⟨S_, .i32⟩
  | 19 => ⟨S16, .i32⟩
  | 20 => ⟨S16x1, .i32⟩
  | 21 => ⟨S16x40, .i32⟩
  | 22 => ⟨S16x40, .i32⟩
  | 23 => ⟨S16x40, .i1⟩
  | 24 => ⟨S8x40, .i32⟩
  | 25 => ⟨S320, .i32⟩
  | 26 => ⟨S_, .i32⟩
  | 27 => ⟨S320, .i32⟩
  | 28 => ⟨S320, .i1⟩
  | 29 => ⟨S_, .i32⟩
  | 30 => ⟨S320, .i32⟩
  | 31 => ⟨S320, .i32⟩
  | 32 => ⟨S320, .i32⟩
  | 33 => ⟨S320x1, .i32⟩
  | 34 => ⟨S320x512, .bf16⟩
  | 35 => ⟨S8x40, .i1⟩
  | 36 => ⟨S320, .i1⟩
  | 37 => ⟨S320x1, .i1⟩
  | 38 => ⟨S320x1, .bf16⟩
  | 39 => ⟨S320x512, .bf16⟩
  | 40 => ⟨S320x512, .bf16⟩
  | 41 => ⟨S8x40, .i32⟩
  | 42 => ⟨S8x40, .i1⟩
  | 43 => ⟨S8x40, .bf16⟩
  | 44 => ⟨S1024x512, .bf16⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | .local _ .vmem, ⟨0, _⟩ => ⟨S320x512, .bf16⟩
  | .local _ .vmem, ⟨1, _⟩ => ⟨S8x40, .i32⟩
  | .local _ .vmem, ⟨2, _⟩ => ⟨S8x40, .bf16⟩
  | .local _ .vmem, ⟨3, _⟩ => ⟨S1024x512, .bf16⟩
  | .local _ .vmem, ⟨4, _⟩ => ⟨S7x40x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(13, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_c_1 : Ref sig .tc := ⟨.hbm, 15, rfl⟩
abbrev main_call0_v4 : Ref sig .tc := ⟨.hbm, 16, rfl⟩
abbrev main_call0_c_2 : Ref sig .tc := ⟨.hbm, 17, rfl⟩
abbrev main_call0_v5 : Ref sig .tc := ⟨.hbm, 18, rfl⟩
abbrev main_call0_c_3 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_v5 : Ref sig .tc := ⟨.hbm, 24, rfl⟩
abbrev main_c_2 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c : Ref sig .tc := ⟨.hbm, 32, rfl⟩
abbrev main_call1_v6 : Ref sig .tc := ⟨.hbm, 33, rfl⟩
abbrev main_call1_v7 : Ref sig .tc := ⟨.hbm, 34, rfl⟩
abbrev main_call1_c_0 : Ref sig .tc := ⟨.hbm, 35, rfl⟩
abbrev main_call1_v8 : Ref sig .tc := ⟨.hbm, 36, rfl⟩
abbrev main_v6 : Ref sig .tc := ⟨.hbm, 37, rfl⟩
abbrev main_c_3 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c : Ref sig .tc := ⟨.hbm, 45, rfl⟩
abbrev main_call2_v6 : Ref sig .tc := ⟨.hbm, 46, rfl⟩
abbrev main_call2_v7 : Ref sig .tc := ⟨.hbm, 47, rfl⟩
abbrev main_call2_c_0 : Ref sig .tc := ⟨.hbm, 48, rfl⟩
abbrev main_call2_v8 : Ref sig .tc := ⟨.hbm, 49, rfl⟩
abbrev main_v7 : Ref sig .tc := ⟨.hbm, 50, rfl⟩
abbrev main_c_4 : Ref sig .tc := ⟨.hbm, 51, rfl⟩
abbrev main_call3_v0 : Ref sig .tc := ⟨.hbm, 52, rfl⟩
abbrev main_call3_c : Ref sig .tc := ⟨.hbm, 53, rfl⟩
abbrev main_call3_v1 : Ref sig .tc := ⟨.hbm, 54, rfl⟩
abbrev main_call3_c_0 : Ref sig .tc := ⟨.hbm, 55, rfl⟩
abbrev main_call3_v2 : Ref sig .tc := ⟨.hbm, 56, rfl⟩
abbrev main_call3_v3 : Ref sig .tc := ⟨.hbm, 57, rfl⟩
abbrev main_call3_c_1 : Ref sig .tc := ⟨.hbm, 58, rfl⟩
abbrev main_call3_v4 : Ref sig .tc := ⟨.hbm, 59, rfl⟩
abbrev main_call3_c_2 : Ref sig .tc := ⟨.hbm, 60, rfl⟩
abbrev main_call3_v5 : Ref sig .tc := ⟨.hbm, 61, rfl⟩
abbrev main_call3_c_3 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_v8 : Ref sig .tc := ⟨.hbm, 67, rfl⟩
abbrev main_v9 : Ref sig .tc := ⟨.hbm, 68, rfl⟩
abbrev main_c_5 : Ref sig .tc := ⟨.hbm, 69, rfl⟩
abbrev main_v10 : Ref sig .tc := ⟨.hbm, 70, rfl⟩
abbrev main_c_6 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_c_7 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_c_8 : Ref sig .tc := ⟨.hbm, 82, rfl⟩
abbrev main_v20 : Ref sig .tc := ⟨.hbm, 83, rfl⟩
abbrev main_c_9 : Ref sig .tc := ⟨.hbm, 84, rfl⟩
abbrev main_v21 : Ref sig .tc := ⟨.hbm, 85, rfl⟩
abbrev main_v22 : Ref sig .tc := ⟨.hbm, 86, rfl⟩
abbrev main_c_10 : Ref sig .tc := ⟨.hbm, 87, rfl⟩
abbrev main_c_11 : Ref sig .tc := ⟨.hbm, 88, rfl⟩
abbrev main_v23 : Ref sig .tc := ⟨.hbm, 89, rfl⟩
abbrev main_c_12 : Ref sig .tc := ⟨.hbm, 90, rfl⟩
abbrev main_c_13 : Ref sig .tc := ⟨.hbm, 91, rfl⟩
abbrev main_v24 : Ref sig .tc := ⟨.hbm, 92, rfl⟩
abbrev main_c_14 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_c_15 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_c_16 : Ref sig .tc := ⟨.hbm, 107, rfl⟩
abbrev main_v37 : Ref sig .tc := ⟨.hbm, 108, rfl⟩
abbrev main_v38 : Ref sig .tc := ⟨.hbm, 109, rfl⟩
abbrev main_c_17 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_call4_v0 : Ref sig .tc := ⟨.hbm, 114, rfl⟩
abbrev main_call4_call0_c : Ref sig .tc := ⟨.hbm, 115, rfl⟩
abbrev main_call4_call0_v0 : Ref sig .tc := ⟨.hbm, 116, rfl⟩
abbrev main_v42 : Ref sig .tc := ⟨.hbm, 117, rfl⟩
abbrev main_c_18 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_c_19 : Ref sig .tc := ⟨.hbm, 131, rfl⟩
abbrev main_call5_v0 : Ref sig .tc := ⟨.hbm, 132, rfl⟩
abbrev main_call5_v1 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_c_20 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_c_21 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_c_22 : Ref sig .tc := ⟨.hbm, 154, rfl⟩
abbrev main_v73 : Ref sig .tc := ⟨.hbm, 155, rfl⟩
abbrev main_v74 : Ref sig .tc := ⟨.hbm, 156, rfl⟩
abbrev main_c_23 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier13 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_off1 (d0 : Dev nD) (c6_i32_22 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v25 : BitVec 32 := Scalar.xori v2 c6_i32_22
  let c4_i32_23 : BitVec 32 := 4#32
  let c0_i32_24 : BitVec 32 := 0#32
  let v26 : BitVec 1 := Scalar.cmpi .eq c4_i32_23 c0_i32_24
  let c1_i32_25 : BitVec 32 := 1#32
  let v27 : BitVec 32 := Scalar.select v26 c1_i32_25 c4_i32_23
  let v28 : BitVec 32 := Scalar.remsi v25 v27
  let c0_i32_27 : BitVec 32 := 0#32
  let v30 : BitVec 1 := Scalar.cmpi .slt v28 c0_i32_27
  let c0_i32_28 : BitVec 32 := 0#32
  let v31 : BitVec 1 := Scalar.cmpi .slt v27 c0_i32_28
  let v32 : BitVec 1 := Scalar.xori v30 v31
  let c0_i32_26 : BitVec 32 := 0#32
  let v29 : BitVec 1 := Scalar.cmpi .ne v28 c0_i32_26
  let v33 : BitVec 1 := Scalar.andi v32 v29
  let v34 : BitVec 32 := Scalar.addi v28 v27
  let v35 : BitVec 32 := Scalar.select v33 v34 v28
  let c2_i32_43 : BitVec 32 := 2#32
  let c0_i32_44 : BitVec 32 := 0#32
  let v70 : BitVec 1 := Scalar.cmpi .eq c2_i32_43 c0_i32_44
  let c1_i32_45 : BitVec 32 := 1#32
  let v71 : BitVec 32 := Scalar.select v70 c1_i32_45 c2_i32_43
  let v72 : BitVec 32 := Scalar.remsi v35 v71
  let c0_i32_47 : BitVec 32 := 0#32
  let v74 : BitVec 1 := Scalar.cmpi .slt v72 c0_i32_47
  let c0_i32_48 : BitVec 32 := 0#32
  let v75 : BitVec 1 := Scalar.cmpi .slt v71 c0_i32_48
  let v76 : BitVec 1 := Scalar.xori v74 v75
  let c0_i32_46 : BitVec 32 := 0#32
  let v73 : BitVec 1 := Scalar.cmpi .ne v72 c0_i32_46
  let v77 : BitVec 1 := Scalar.andi v76 v73
  let v78 : BitVec 32 := Scalar.addi v72 v71
  let v79 : BitVec 32 := Scalar.select v77 v78 v72
  let c0_i32_37 : BitVec 32 := 0#32
  let v54 : BitVec 1 := Scalar.cmpi .sgt v35 c0_i32_37
  let v55 : BitVec 32 := Scalar.extui v54
  let c0_i32_38 : BitVec 32 := 0#32
  let v56 : BitVec 1 := Scalar.cmpi .slt v35 c0_i32_38
  let v57 : BitVec 32 := Scalar.extui v56
  let v58 : BitVec 32 := Scalar.subi v55 v57
  let c2_i32_36 : BitVec 32 := 2#32
  let c0_i32_39 : BitVec 32 := 0#32
  let v59 : BitVec 1 := Scalar.cmpi .sgt c2_i32_36 c0_i32_39
  let v60 : BitVec 32 := Scalar.extui v59
  let c0_i32_40 : BitVec 32 := 0#32
  let v61 : BitVec 1 := Scalar.cmpi .slt c2_i32_36 c0_i32_40
  let v62 : BitVec 32 := Scalar.extui v61
  let v63 : BitVec 32 := Scalar.subi v60 v62
  let v64 : BitVec 1 := Scalar.cmpi .ne v58 v63
  let v65 : BitVec 32 := Scalar.remsi v35 c2_i32_36
  let c0_i32_41 : BitVec 32 := 0#32
  let v66 : BitVec 1 := Scalar.cmpi .ne v65 c0_i32_41
  let v67 : BitVec 1 := Scalar.andi v64 v66
  let v53 : BitVec 32 := Scalar.divsi v35 c2_i32_36
  let c1_i32_42 : BitVec 32 := 1#32
  let v68 : BitVec 32 := Scalar.subi v53 c1_i32_42
  let v69 : BitVec 32 := Scalar.select v67 v68 v53
  let v80 : BitVec 32 := Scalar.xori v79 v69
  let c4_i32_49 : BitVec 32 := 4#32
  let v81 : BitVec 32 := Scalar.muli v80 c4_i32_49
  let c2_i32_50 : BitVec 32 := 2#32
  let v82 : BitVec 32 := Scalar.muli v69 c2_i32_50
  let v83 : BitVec 32 := Scalar.addi v81 v82
  let c0_i32_30 : BitVec 32 := 0#32
  let v37 : BitVec 1 := Scalar.cmpi .sgt v25 c0_i32_30
  let v38 : BitVec 32 := Scalar.extui v37
  let c0_i32_31 : BitVec 32 := 0#32
  let v39 : BitVec 1 := Scalar.cmpi .slt v25 c0_i32_31
  let v40 : BitVec 32 := Scalar.extui v39
  let v41 : BitVec 32 := Scalar.subi v38 v40
  let c4_i32_29 : BitVec 32 := 4#32
  let c0_i32_32 : BitVec 32 := 0#32
  let v42 : BitVec 1 := Scalar.cmpi .sgt c4_i32_29 c0_i32_32
  let v43 : BitVec 32 := Scalar.extui v42
  let c0_i32_33 : BitVec 32 := 0#32
  let v44 : BitVec 1 := Scalar.cmpi .slt c4_i32_29 c0_i32_33
  let v45 : BitVec 32 := Scalar.extui v44
  let v46 : BitVec 32 := Scalar.subi v43 v45
  let v47 : BitVec 1 := Scalar.cmpi .ne v41 v46
  let v48 : BitVec 32 := Scalar.remsi v25 c4_i32_29
  let c0_i32_34 : BitVec 32 := 0#32
  let v49 : BitVec 1 := Scalar.cmpi .ne v48 c0_i32_34
  let v50 : BitVec 1 := Scalar.andi v47 v49
  let v36 : BitVec 32 := Scalar.divsi v25 c4_i32_29
  let c1_i32_35 : BitVec 32 := 1#32
  let v51 : BitVec 32 := Scalar.subi v36 c1_i32_35
  let v52 : BitVec 32 := Scalar.select v50 v51 v36
  let v84 : BitVec 32 := Scalar.addi v83 v52
  let c40_i32 : BitVec 32 := 40#32
  let v85 : BitVec 32 := Scalar.muli v84 c40_i32
  let c0_i32_58 : BitVec 32 := 0#32
  ![v85.toNat, 0]
def k0_dev8 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_22 : BitVec 32 := 6#32
  let v25 : BitVec 32 := Scalar.xori v2 c6_i32_22
  let c1_i32_54 : BitVec 32 := 1#32
  let v86 : BitVec 32 := Scalar.muli v25 c1_i32_54
  let v87 : BitVec 32 := Scalar.addi c0_i32_55 v86
  v87.toNat
def k0_dev9 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_59 : BitVec 32 := 7#32
  let v95 : BitVec 32 := Scalar.xori v2 c7_i32_59
  let c1_i32_92 : BitVec 32 := 1#32
  let v156 : BitVec 32 := Scalar.muli v95 c1_i32_92
  let v157 : BitVec 32 := Scalar.addi c0_i32_93 v156
  v157.toNat
def k0_dev10 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_97 : BitVec 32 := 5#32
  let v165 : BitVec 32 := Scalar.xori v2 c5_i32_97
  let c1_i32_130 : BitVec 32 := 1#32
  let v226 : BitVec 32 := Scalar.muli v165 c1_i32_130
  let v227 : BitVec 32 := Scalar.addi c0_i32_131 v226
  v227.toNat
def k0_dev11 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_135 : BitVec 32 := 2#32
  let v235 : BitVec 32 := Scalar.xori v2 c2_i32_135
  let c1_i32_168 : BitVec 32 := 1#32
  let v296 : BitVec 32 := Scalar.muli v235 c1_i32_168
  let v297 : BitVec 32 := Scalar.addi c0_i32_169 v296
  v297.toNat
def k0_dev12 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_173 : BitVec 32 := 4#32
  let v305 : BitVec 32 := Scalar.xori v2 c4_i32_173
  let c1_i32_206 : BitVec 32 := 1#32
  let v366 : BitVec 32 := Scalar.muli v305 c1_i32_206
  let v367 : BitVec 32 := Scalar.addi c0_i32_207 v366
  v367.toNat
def k0_dev13 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_211 : BitVec 32 := 3#32
  let v375 : BitVec 32 := Scalar.xori v2 c3_i32_211
  let c1_i32_244 : BitVec 32 := 1#32
  let v436 : BitVec 32 := Scalar.muli v375 c1_i32_244
  let v437 : BitVec 32 := Scalar.addi c0_i32_245 v436
  v437.toNat
def k0_dev14 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_249 : BitVec 32 := 1#32
  let v445 : BitVec 32 := Scalar.xori v2 c1_i32_249
  let c1_i32_282 : BitVec 32 := 1#32
  let v506 : BitVec 32 := Scalar.muli v445 c1_i32_282
  let v507 : BitVec 32 := Scalar.addi c0_i32_283 v506
  v507.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_287 : BitVec 32 := 4#32
  let c0_i32_288 : BitVec 32 := 0#32
  let v515 : BitVec 1 := Scalar.cmpi .eq c4_i32_287 c0_i32_288
  let c1_i32_289 : BitVec 32 := 1#32
  let v516 : BitVec 32 := Scalar.select v515 c1_i32_289 c4_i32_287
  let v517 : BitVec 32 := Scalar.remsi v2 v516
  let c0_i32_291 : BitVec 32 := 0#32
  let v519 : BitVec 1 := Scalar.cmpi .slt v517 c0_i32_291
  let c0_i32_292 : BitVec 32 := 0#32
  let v520 : BitVec 1 := Scalar.cmpi .slt v516 c0_i32_292
  let v521 : BitVec 1 := Scalar.xori v519 v520
  let c0_i32_290 : BitVec 32 := 0#32
  let v518 : BitVec 1 := Scalar.cmpi .ne v517 c0_i32_290
  let v522 : BitVec 1 := Scalar.andi v521 v518
  let v523 : BitVec 32 := Scalar.addi v517 v516
  let v524 : BitVec 32 := Scalar.select v522 v523 v517
  let c2_i32_307 : BitVec 32 := 2#32
  let c0_i32_308 : BitVec 32 := 0#32
  let v559 : BitVec 1 := Scalar.cmpi .eq c2_i32_307 c0_i32_308
  let c1_i32_309 : BitVec 32 := 1#32
  let v560 : BitVec 32 := Scalar.select v559 c1_i32_309 c2_i32_307
  let v561 : BitVec 32 := Scalar.remsi v524 v560
  let c0_i32_311 : BitVec 32 := 0#32
  let v563 : BitVec 1 := Scalar.cmpi .slt v561 c0_i32_311
  let c0_i32_312 : BitVec 32 := 0#32
  let v564 : BitVec 1 := Scalar.cmpi .slt v560 c0_i32_312
  let v565 : BitVec 1 := Scalar.xori v563 v564
  let c0_i32_310 : BitVec 32 := 0#32
  let v562 : BitVec 1 := Scalar.cmpi .ne v561 c0_i32_310
  let v566 : BitVec 1 := Scalar.andi v565 v562
  let v567 : BitVec 32 := Scalar.addi v561 v560
  let v568 : BitVec 32 := Scalar.select v566 v567 v561
  let c0_i32_301 : BitVec 32 := 0#32
  let v543 : BitVec 1 := Scalar.cmpi .sgt v524 c0_i32_301
  let v544 : BitVec 32 := Scalar.extui v543
  let c0_i32_302 : BitVec 32 := 0#32
  let v545 : BitVec 1 := Scalar.cmpi .slt v524 c0_i32_302
  let v546 : BitVec 32 := Scalar.extui v545
  let v547 : BitVec 32 := Scalar.subi v544 v546
  let c2_i32_300 : BitVec 32 := 2#32
  let c0_i32_303 : BitVec 32 := 0#32
  let v548 : BitVec 1 := Scalar.cmpi .sgt c2_i32_300 c0_i32_303
  let v549 : BitVec 32 := Scalar.extui v548
  let c0_i32_304 : BitVec 32 := 0#32
  let v550 : BitVec 1 := Scalar.cmpi .slt c2_i32_300 c0_i32_304
  let v551 : BitVec 32 := Scalar.extui v550
  let v552 : BitVec 32 := Scalar.subi v549 v551
  let v553 : BitVec 1 := Scalar.cmpi .ne v547 v552
  let v554 : BitVec 32 := Scalar.remsi v524 c2_i32_300
  let c0_i32_305 : BitVec 32 := 0#32
  let v555 : BitVec 1 := Scalar.cmpi .ne v554 c0_i32_305
  let v556 : BitVec 1 := Scalar.andi v553 v555
  let v542 : BitVec 32 := Scalar.divsi v524 c2_i32_300
  let c1_i32_306 : BitVec 32 := 1#32
  let v557 : BitVec 32 := Scalar.subi v542 c1_i32_306
  let v558 : BitVec 32 := Scalar.select v556 v557 v542
  let v569 : BitVec 32 := Scalar.xori v568 v558
  let c4_i32_313 : BitVec 32 := 4#32
  let v570 : BitVec 32 := Scalar.muli v569 c4_i32_313
  let c2_i32_314 : BitVec 32 := 2#32
  let v571 : BitVec 32 := Scalar.muli v558 c2_i32_314
  let v572 : BitVec 32 := Scalar.addi v570 v571
  let c0_i32_294 : BitVec 32 := 0#32
  let v526 : BitVec 1 := Scalar.cmpi .sgt v2 c0_i32_294
  let v527 : BitVec 32 := Scalar.extui v526
  let c0_i32_295 : BitVec 32 := 0#32
  let v528 : BitVec 1 := Scalar.cmpi .slt v2 c0_i32_295
  let v529 : BitVec 32 := Scalar.extui v528
  let v530 : BitVec 32 := Scalar.subi v527 v529
  let c4_i32_293 : BitVec 32 := 4#32
  let c0_i32_296 : BitVec 32 := 0#32
  let v531 : BitVec 1 := Scalar.cmpi .sgt c4_i32_293 c0_i32_296
  let v532 : BitVec 32 := Scalar.extui v531
  let c0_i32_297 : BitVec 32 := 0#32
  let v533 : BitVec 1 := Scalar.cmpi .slt c4_i32_293 c0_i32_297
  let v534 : BitVec 32 := Scalar.extui v533
  let v535 : BitVec 32 := Scalar.subi v532 v534
  let v536 : BitVec 1 := Scalar.cmpi .ne v530 v535
  let v537 : BitVec 32 := Scalar.remsi v2 c4_i32_293
  let c0_i32_298 : BitVec 32 := 0#32
  let v538 : BitVec 1 := Scalar.cmpi .ne v537 c0_i32_298
  let v539 : BitVec 1 := Scalar.andi v536 v538
  let v525 : BitVec 32 := Scalar.divsi v2 c4_i32_293
  let c1_i32_299 : BitVec 32 := 1#32
  let v540 : BitVec 32 := Scalar.subi v525 c1_i32_299
  let v541 : BitVec 32 := Scalar.select v539 v540 v525
  let v573 : BitVec 32 := Scalar.addi v572 v541
  let c40_i32_319 : BitVec 32 := 40#32
  let v601 : BitVec 32 := Scalar.muli v573 c40_i32_319
  let v602 : Index := Scalar.indexCast v601
  let c0_320 : Index := 0#32
  ![v602.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_287 : BitVec 32 := 4#32
  let c0_i32_288 : BitVec 32 := 0#32
  let v515 : BitVec 1 := Scalar.cmpi .eq c4_i32_287 c0_i32_288
  let c1_i32_289 : BitVec 32 := 1#32
  let v516 : BitVec 32 := Scalar.select v515 c1_i32_289 c4_i32_287
  let v517 : BitVec 32 := Scalar.remsi v2 v516
  let c0_i32_291 : BitVec 32 := 0#32
  let v519 : BitVec 1 := Scalar.cmpi .slt v517 c0_i32_291
  let c0_i32_292 : BitVec 32 := 0#32
  let v520 : BitVec 1 := Scalar.cmpi .slt v516 c0_i32_292
  let v521 : BitVec 1 := Scalar.xori v519 v520
  let c0_i32_290 : BitVec 32 := 0#32
  let v518 : BitVec 1 := Scalar.cmpi .ne v517 c0_i32_290
  let v522 : BitVec 1 := Scalar.andi v521 v518
  let v523 : BitVec 32 := Scalar.addi v517 v516
  let v524 : BitVec 32 := Scalar.select v522 v523 v517
  let c2_i32_307 : BitVec 32 := 2#32
  let c0_i32_308 : BitVec 32 := 0#32
  let v559 : BitVec 1 := Scalar.cmpi .eq c2_i32_307 c0_i32_308
  let c1_i32_309 : BitVec 32 := 1#32
  let v560 : BitVec 32 := Scalar.select v559 c1_i32_309 c2_i32_307
  let v561 : BitVec 32 := Scalar.remsi v524 v560
  let c0_i32_311 : BitVec 32 := 0#32
  let v563 : BitVec 1 := Scalar.cmpi .slt v561 c0_i32_311
  let c0_i32_312 : BitVec 32 := 0#32
  let v564 : BitVec 1 := Scalar.cmpi .slt v560 c0_i32_312
  let v565 : BitVec 1 := Scalar.xori v563 v564
  let c0_i32_310 : BitVec 32 := 0#32
  let v562 : BitVec 1 := Scalar.cmpi .ne v561 c0_i32_310
  let v566 : BitVec 1 := Scalar.andi v565 v562
  let v567 : BitVec 32 := Scalar.addi v561 v560
  let v568 : BitVec 32 := Scalar.select v566 v567 v561
  let c0_i32_301 : BitVec 32 := 0#32
  let v543 : BitVec 1 := Scalar.cmpi .sgt v524 c0_i32_301
  let v544 : BitVec 32 := Scalar.extui v543
  let c0_i32_302 : BitVec 32 := 0#32
  let v545 : BitVec 1 := Scalar.cmpi .slt v524 c0_i32_302
  let v546 : BitVec 32 := Scalar.extui v545
  let v547 : BitVec 32 := Scalar.subi v544 v546
  let c2_i32_300 : BitVec 32 := 2#32
  let c0_i32_303 : BitVec 32 := 0#32
  let v548 : BitVec 1 := Scalar.cmpi .sgt c2_i32_300 c0_i32_303
  let v549 : BitVec 32 := Scalar.extui v548
  let c0_i32_304 : BitVec 32 := 0#32
  let v550 : BitVec 1 := Scalar.cmpi .slt c2_i32_300 c0_i32_304
  let v551 : BitVec 32 := Scalar.extui v550
  let v552 : BitVec 32 := Scalar.subi v549 v551
  let v553 : BitVec 1 := Scalar.cmpi .ne v547 v552
  let v554 : BitVec 32 := Scalar.remsi v524 c2_i32_300
  let c0_i32_305 : BitVec 32 := 0#32
  let v555 : BitVec 1 := Scalar.cmpi .ne v554 c0_i32_305
  let v556 : BitVec 1 := Scalar.andi v553 v555
  let v542 : BitVec 32 := Scalar.divsi v524 c2_i32_300
  let c1_i32_306 : BitVec 32 := 1#32
  let v557 : BitVec 32 := Scalar.subi v542 c1_i32_306
  let v558 : BitVec 32 := Scalar.select v556 v557 v542
  let v569 : BitVec 32 := Scalar.xori v568 v558
  let c4_i32_313 : BitVec 32 := 4#32
  let v570 : BitVec 32 := Scalar.muli v569 c4_i32_313
  let c2_i32_314 : BitVec 32 := 2#32
  let v571 : BitVec 32 := Scalar.muli v558 c2_i32_314
  let v572 : BitVec 32 := Scalar.addi v570 v571
  let c0_i32_294 : BitVec 32 := 0#32
  let v526 : BitVec 1 := Scalar.cmpi .sgt v2 c0_i32_294
  let v527 : BitVec 32 := Scalar.extui v526
  let c0_i32_295 : BitVec 32 := 0#32
  let v528 : BitVec 1 := Scalar.cmpi .slt v2 c0_i32_295
  let v529 : BitVec 32 := Scalar.extui v528
  let v530 : BitVec 32 := Scalar.subi v527 v529
  let c4_i32_293 : BitVec 32 := 4#32
  let c0_i32_296 : BitVec 32 := 0#32
  let v531 : BitVec 1 := Scalar.cmpi .sgt c4_i32_293 c0_i32_296
  let v532 : BitVec 32 := Scalar.extui v531
  let c0_i32_297 : BitVec 32 := 0#32
  let v533 : BitVec 1 := Scalar.cmpi .slt c4_i32_293 c0_i32_297
  let v534 : BitVec 32 := Scalar.extui v533
  let v535 : BitVec 32 := Scalar.subi v532 v534
  let v536 : BitVec 1 := Scalar.cmpi .ne v530 v535
  let v537 : BitVec 32 := Scalar.remsi v2 c4_i32_293
  let c0_i32_298 : BitVec 32 := 0#32
  let v538 : BitVec 1 := Scalar.cmpi .ne v537 c0_i32_298
  let v539 : BitVec 1 := Scalar.andi v536 v538
  let v525 : BitVec 32 := Scalar.divsi v2 c4_i32_293
  let c1_i32_299 : BitVec 32 := 1#32
  let v540 : BitVec 32 := Scalar.subi v525 c1_i32_299
  let v541 : BitVec 32 := Scalar.select v539 v540 v525
  let v573 : BitVec 32 := Scalar.addi v572 v541
  let c128_i32 : BitVec 32 := 128#32
  let v851 : BitVec 32 := Scalar.muli v573 c128_i32
  let v853 : Index := Scalar.indexCast v851
  let c0_421 : Index := 0#32
  ![v853.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_287 : BitVec 32 := 4#32
  let c0_i32_288 : BitVec 32 := 0#32
  let v515 : BitVec 1 := Scalar.cmpi .eq c4_i32_287 c0_i32_288
  let c1_i32_289 : BitVec 32 := 1#32
  let v516 : BitVec 32 := Scalar.select v515 c1_i32_289 c4_i32_287
  let v517 : BitVec 32 := Scalar.remsi v2 v516
  let c0_i32_291 : BitVec 32 := 0#32
  let v519 : BitVec 1 := Scalar.cmpi .slt v517 c0_i32_291
  let c0_i32_292 : BitVec 32 := 0#32
  let v520 : BitVec 1 := Scalar.cmpi .slt v516 c0_i32_292
  let v521 : BitVec 1 := Scalar.xori v519 v520
  let c0_i32_290 : BitVec 32 := 0#32
  let v518 : BitVec 1 := Scalar.cmpi .ne v517 c0_i32_290
  let v522 : BitVec 1 := Scalar.andi v521 v518
  let v523 : BitVec 32 := Scalar.addi v517 v516
  let v524 : BitVec 32 := Scalar.select v522 v523 v517
  let c2_i32_307 : BitVec 32 := 2#32
  let c0_i32_308 : BitVec 32 := 0#32
  let v559 : BitVec 1 := Scalar.cmpi .eq c2_i32_307 c0_i32_308
  let c1_i32_309 : BitVec 32 := 1#32
  let v560 : BitVec 32 := Scalar.select v559 c1_i32_309 c2_i32_307
  let v561 : BitVec 32 := Scalar.remsi v524 v560
  let c0_i32_311 : BitVec 32 := 0#32
  let v563 : BitVec 1 := Scalar.cmpi .slt v561 c0_i32_311
  let c0_i32_312 : BitVec 32 := 0#32
  let v564 : BitVec 1 := Scalar.cmpi .slt v560 c0_i32_312
  let v565 : BitVec 1 := Scalar.xori v563 v564
  let c0_i32_310 : BitVec 32 := 0#32
  let v562 : BitVec 1 := Scalar.cmpi .ne v561 c0_i32_310
  let v566 : BitVec 1 := Scalar.andi v565 v562
  let v567 : BitVec 32 := Scalar.addi v561 v560
  let v568 : BitVec 32 := Scalar.select v566 v567 v561
  let c0_i32_301 : BitVec 32 := 0#32
  let v543 : BitVec 1 := Scalar.cmpi .sgt v524 c0_i32_301
  let v544 : BitVec 32 := Scalar.extui v543
  let c0_i32_302 : BitVec 32 := 0#32
  let v545 : BitVec 1 := Scalar.cmpi .slt v524 c0_i32_302
  let v546 : BitVec 32 := Scalar.extui v545
  let v547 : BitVec 32 := Scalar.subi v544 v546
  let c2_i32_300 : BitVec 32 := 2#32
  let c0_i32_303 : BitVec 32 := 0#32
  let v548 : BitVec 1 := Scalar.cmpi .sgt c2_i32_300 c0_i32_303
  let v549 : BitVec 32 := Scalar.extui v548
  let c0_i32_304 : BitVec 32 := 0#32
  let v550 : BitVec 1 := Scalar.cmpi .slt c2_i32_300 c0_i32_304
  let v551 : BitVec 32 := Scalar.extui v550
  let v552 : BitVec 32 := Scalar.subi v549 v551
  let v553 : BitVec 1 := Scalar.cmpi .ne v547 v552
  let v554 : BitVec 32 := Scalar.remsi v524 c2_i32_300
  let c0_i32_305 : BitVec 32 := 0#32
  let v555 : BitVec 1 := Scalar.cmpi .ne v554 c0_i32_305
  let v556 : BitVec 1 := Scalar.andi v553 v555
  let v542 : BitVec 32 := Scalar.divsi v524 c2_i32_300
  let c1_i32_306 : BitVec 32 := 1#32
  let v557 : BitVec 32 := Scalar.subi v542 c1_i32_306
  let v558 : BitVec 32 := Scalar.select v556 v557 v542
  let v569 : BitVec 32 := Scalar.xori v568 v558
  let c4_i32_313 : BitVec 32 := 4#32
  let v570 : BitVec 32 := Scalar.muli v569 c4_i32_313
  let c2_i32_314 : BitVec 32 := 2#32
  let v571 : BitVec 32 := Scalar.muli v558 c2_i32_314
  let v572 : BitVec 32 := Scalar.addi v570 v571
  let c0_i32_294 : BitVec 32 := 0#32
  let v526 : BitVec 1 := Scalar.cmpi .sgt v2 c0_i32_294
  let v527 : BitVec 32 := Scalar.extui v526
  let c0_i32_295 : BitVec 32 := 0#32
  let v528 : BitVec 1 := Scalar.cmpi .slt v2 c0_i32_295
  let v529 : BitVec 32 := Scalar.extui v528
  let v530 : BitVec 32 := Scalar.subi v527 v529
  let c4_i32_293 : BitVec 32 := 4#32
  let c0_i32_296 : BitVec 32 := 0#32
  let v531 : BitVec 1 := Scalar.cmpi .sgt c4_i32_293 c0_i32_296
  let v532 : BitVec 32 := Scalar.extui v531
  let c0_i32_297 : BitVec 32 := 0#32
  let v533 : BitVec 1 := Scalar.cmpi .slt c4_i32_293 c0_i32_297
  let v534 : BitVec 32 := Scalar.extui v533
  let v535 : BitVec 32 := Scalar.subi v532 v534
  let v536 : BitVec 1 := Scalar.cmpi .ne v530 v535
  let v537 : BitVec 32 := Scalar.remsi v2 c4_i32_293
  let c0_i32_298 : BitVec 32 := 0#32
  let v538 : BitVec 1 := Scalar.cmpi .ne v537 c0_i32_298
  let v539 : BitVec 1 := Scalar.andi v536 v538
  let v525 : BitVec 32 := Scalar.divsi v2 c4_i32_293
  let c1_i32_299 : BitVec 32 := 1#32
  let v540 : BitVec 32 := Scalar.subi v525 c1_i32_299
  let v541 : BitVec 32 := Scalar.select v539 v540 v525
  let v573 : BitVec 32 := Scalar.addi v572 v541
  let c128_i32 : BitVec 32 := 128#32
  let v851 : BitVec 32 := Scalar.muli v573 c128_i32
  let c0_i32_427 : BitVec 32 := 0#32
  ![v851.toNat, 0]
def k0_dev15 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_422 : BitVec 32 := 6#32
  let v855 : BitVec 32 := Scalar.xori v2 c6_i32_422
  let c1_i32_425 : BitVec 32 := 1#32
  let v856 : BitVec 32 := Scalar.muli v855 c1_i32_425
  let v857 : BitVec 32 := Scalar.addi c0_i32_426 v856
  v857.toNat
def k0_dev16 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_429 : BitVec 32 := 7#32
  let v864 : BitVec 32 := Scalar.xori v2 c7_i32_429
  let c1_i32_432 : BitVec 32 := 1#32
  let v865 : BitVec 32 := Scalar.muli v864 c1_i32_432
  let v866 : BitVec 32 := Scalar.addi c0_i32_433 v865
  v866.toNat
def k0_dev17 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_436 : BitVec 32 := 5#32
  let v873 : BitVec 32 := Scalar.xori v2 c5_i32_436
  let c1_i32_439 : BitVec 32 := 1#32
  let v874 : BitVec 32 := Scalar.muli v873 c1_i32_439
  let v875 : BitVec 32 := Scalar.addi c0_i32_440 v874
  v875.toNat
def k0_dev18 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_443 : BitVec 32 := 2#32
  let v882 : BitVec 32 := Scalar.xori v2 c2_i32_443
  let c1_i32_446 : BitVec 32 := 1#32
  let v883 : BitVec 32 := Scalar.muli v882 c1_i32_446
  let v884 : BitVec 32 := Scalar.addi c0_i32_447 v883
  v884.toNat
def k0_dev19 (d0 : Dev nD) : Nat :=
  let c0_i32_454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_450 : BitVec 32 := 4#32
  let v891 : BitVec 32 := Scalar.xori v2 c4_i32_450
  let c1_i32_453 : BitVec 32 := 1#32
  let v892 : BitVec 32 := Scalar.muli v891 c1_i32_453
  let v893 : BitVec 32 := Scalar.addi c0_i32_454 v892
  v893.toNat
def k0_dev20 (d0 : Dev nD) : Nat :=
  let c0_i32_461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_457 : BitVec 32 := 3#32
  let v900 : BitVec 32 := Scalar.xori v2 c3_i32_457
  let c1_i32_460 : BitVec 32 := 1#32
  let v901 : BitVec 32 := Scalar.muli v900 c1_i32_460
  let v902 : BitVec 32 := Scalar.addi c0_i32_461 v901
  v902.toNat
def k0_dev21 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_464 : BitVec 32 := 1#32
  let v909 : BitVec 32 := Scalar.xori v2 c1_i32_464
  let c1_i32_467 : BitVec 32 := 1#32
  let v910 : BitVec 32 := Scalar.muli v909 c1_i32_467
  let v911 : BitVec 32 := Scalar.addi c0_i32_468 v910
  v911.toNat
abbrev stage0_0 : Fin 1 → Memref sig .tc .vmem S320x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x40 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x40 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S32768x512 : Shape := ⟨2, ![32768, 512]⟩
abbrev S1024 : Shape := ⟨1, ![1024]⟩
abbrev S_ : Shape := ⟨0, ![]⟩
abbrev S1024x1 : Shape := ⟨2, ![1024, 1]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Common.lean ====
/- The names the proof uses: the mesh's exchanges, the buffers and semaphores of the kernel, and the kernel's body
   written as a program over the list of its seven exchanges. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Lookup

open Cert.KernelIdeal Cert.KernelIdeal.Gen Cert.KernelIdeal.Facts₀

open Idealize.ShloMosaic
open Idealize.ShloMosaic.TcCoe
open Idealize.SL Idealize.SL.Sem

variable {F : FTy → Type} [FloatOps F]

/-! ## The exchanges -/

/-- The partner of device `c` in exchange `r`: the device whose number differs from `c`'s by the bits of `r + 1`. -/
def peer (r : Fin 7) (c : Dev nD) : Dev nD := ⟨(c.val ^^^ (r.val + 1)) % 8, Nat.mod_lt _ (by decide)⟩

theorem peer_peer : ∀ (r : Fin 7) (c : Dev nD), peer r (peer r c) = c := by decide
theorem peer_ne : ∀ (r : Fin 7) (c : Dev nD), peer r c ≠ c := by decide
theorem peer_inj : ∀ (c : Dev nD) (r r' : Fin 7), peer r c = peer r' c → r = r' := by decide
theorem exists_peer : ∀ (c d : Dev nD), d ≠ c → ∃ r, d = peer r c := by decide

/-- An exchange permutes the devices. -/
def peerEquiv (r : Fin 7) : Dev nD ≃ Dev nD := ⟨peer r, peer r, peer_peer r, peer_peer r⟩

/-- The chunk of the result that device `c` assembles. -/
def slot (c : Dev nD) : Fin 8 :=
  ⟨((c.val % 4 % 2 ^^^ c.val % 4 / 2) * 4 + c.val % 4 / 2 * 2 + c.val / 4) % 8, Nat.mod_lt _ (by decide)⟩

theorem slot_inj : ∀ c d : Dev nD, slot c = slot d → c = d := by decide

/-- The order in which the kernel runs through the exchanges. -/
abbrev order : List (Fin 7) := [5, 6, 4, 1, 3, 2, 0]

/-! ## The memrefs -/

abbrev bM : Memref sig .tc .vmem S320x512 .bf16 := Memref.whole cc0_stg0_0
abbrev pM : Memref sig .tc .vmem S8x40 .i32 := Memref.whole cc0_stg1_0
abbrev vM : Memref sig .tc .vmem S8x40 .bf16 := Memref.whole cc0_stg2_0
abbrev oM : Memref sig .tc .vmem S1024x512 .bf16 := Memref.whole cc0_stg3_0
abbrev rM : Memref sig .tc .vmem S7x40x512 .bf16 := Memref.whole cc0_scratch0

theorem bWhole : (bM).IsWhole := Memref.isWhole_whole _
theorem oWhole : (oM).IsWhole := Memref.isWhole_whole _
theorem rWhole : (rM).IsWhole := Memref.isWhole_whole _

/-- The distance of exchange `r`, as the kernel's word. -/
abbrev jw (r : Fin 7) : BitVec 32 := BitVec.ofNat 32 (1 + r.val)

/-- The rows of the sending buffer that device `c` sends in exchange `r`. -/
abbrev sendRect (r : Fin 7) (c : Dev nD) : Rect S320x512 :=
  Rect.unit (s := S320x512) (k0_off1 c (jw r)) S40x512.size (Gen.k0_off1_inb c r)
abbrev sendM (r : Fin 7) (c : Dev nD) : Memref sig .tc .vmem S40x512 .bf16 := bM.slice (sendRect r c) (fun _ => rfl)
abbrev ownRect (c : Dev nD) : Rect S320x512 := Rect.unit (s := S320x512) (k0_off2 c) S40x512.size (Gen.k0_off2_inb c)

theorem landInb : ∀ r : Fin 7, ∀ a, (![r.val, 0, 0] : Fin 3 → Nat) a + S1x40x512.size a ≤ S7x40x512.size a := by decide
theorem landWords : ∀ r : Fin 7,
    (Rect.unit (s := S7x40x512) ![r.val, 0, 0] S1x40x512.size (landInb r)).WholeWords (EltTy.packing .bf16) := by decide +kernel
/-- The part of the landing buffer that exchange `r` fills. -/
abbrev landRect (r : Fin 7) : Rect S7x40x512 := Rect.unit (s := S7x40x512) ![r.val, 0, 0] S1x40x512.size (landInb r)
abbrev landM (r : Fin 7) : Memref sig .tc .vmem S40x512 .bf16 :=
  (rM.slice (landRect r) (fun _ => rfl)).squeeze S40x512 Gen.facts.squeezes_S1x40x512_S40x512

/-- The rows of the result that device `c` assembles: at `chunkM c` they are sent, at `storeRect c` they are stored. -/
abbrev chunkRect (c : Dev nD) : Rect S1024x512 := Rect.unit (s := S1024x512) (k0_off4 c) S128x512.size (Gen.k0_off4_inb c)
abbrev chunkM (c : Dev nD) : Memref sig .tc .vmem S128x512 .bf16 := oM.slice (chunkRect c) (fun _ => rfl)
abbrev storeRect (c : Dev nD) : Rect S1024x512 := Rect.unit (s := S1024x512) (k0_off3 c) S128x512.size (Gen.k0_off3_inb c)

/-! ## The semaphores -/

abbrev barS : Sem sig := (SemArray.scalar (sig.barrier 13 rfl) : Sems sig S_).sem

theorem semInb : ∀ r : Fin 7, ∀ a, (![r.val] : Fin 1 → Nat) a + S1.size a ≤ S7.size a := by decide

/-- Semaphore `r` of one of the kernel's four arrays of seven. -/
abbrev semAt (A : DmaSems sig S7) (r : Fin 7) : DmaSem sig :=
  ((A.slice (Rect.unit (s := S7) ![r.val] S1.size (semInb r))).squeeze S_ Gen.facts.squeezes_S1_S_).sem
/-- Of exchange `r`: rows sent, rows landed, result chunk sent, result chunk landed. -/
abbrev sS (r : Fin 7) : DmaSem sig := semAt cc0_scratch1 r
abbrev rS (r : Fin 7) : DmaSem sig := semAt cc0_scratch2 r
abbrev tS (r : Fin 7) : DmaSem sig := semAt cc0_scratch3 r
abbrev uS (r : Fin 7) : DmaSem sig := semAt cc0_scratch4 r

/-! ## The devices the kernel addresses, as its words compute them -/

def sigDev (r : Fin 7) (c : Dev nD) : Dev nD := match r with
  | 0 => ⟨k0_dev1 c, Gen.k0_dev1_lt c⟩ | 1 => ⟨k0_dev2 c, Gen.k0_dev2_lt c⟩ | 2 => ⟨k0_dev3 c, Gen.k0_dev3_lt c⟩
  | 3 => ⟨k0_dev4 c, Gen.k0_dev4_lt c⟩ | 4 => ⟨k0_dev5 c, Gen.k0_dev5_lt c⟩ | 5 => ⟨k0_dev6 c, Gen.k0_dev6_lt c⟩
  | 6 => ⟨k0_dev7 c, Gen.k0_dev7_lt c⟩
def rowDev (r : Fin 7) (c : Dev nD) : Dev nD := match r with
  | 5 => ⟨k0_dev8 c, Gen.k0_dev8_lt c⟩ | 6 => ⟨k0_dev9 c, Gen.k0_dev9_lt c⟩ | 4 => ⟨k0_dev10 c, Gen.k0_dev10_lt c⟩
  | 1 => ⟨k0_dev11 c, Gen.k0_dev11_lt c⟩ | 3 => ⟨k0_dev12 c, Gen.k0_dev12_lt c⟩ | 2 => ⟨k0_dev13 c, Gen.k0_dev13_lt c⟩
  | 0 => ⟨k0_dev14 c, Gen.k0_dev14_lt c⟩
def outDev (r : Fin 7) (c : Dev nD) : Dev nD := match r with
  | 5 => ⟨k0_dev15 c, Gen.k0_dev15_lt c⟩ | 6 => ⟨k0_dev16 c, Gen.k0_dev16_lt c⟩ | 4 => ⟨k0_dev17 c, Gen.k0_dev17_lt c⟩
  | 1 => ⟨k0_dev18 c, Gen.k0_dev18_lt c⟩ | 3 => ⟨k0_dev19 c, Gen.k0_dev19_lt c⟩ | 2 => ⟨k0_dev20 c, Gen.k0_dev20_lt c⟩
  | 0 => ⟨k0_dev21 c, Gen.k0_dev21_lt c⟩

theorem sigDev_eq : ∀ (r : Fin 7) (c : Dev nD), sigDev r c = peer r c := by decide +kernel
theorem rowDev_eq : ∀ (r : Fin 7) (c : Dev nD), rowDev r c = peer r c := by decide +kernel
theorem outDev_eq : ∀ (r : Fin 7) (c : Dev nD), outDev r c = peer r c := by decide +kernel

/-! ## The rectangles, in numbers -/

theorem send_off : ∀ (r : Fin 7) (c : Dev nD), k0_off1 c (jw r) = ![(slot (peer r c)).val * 40, 0] := by decide +kernel
theorem own_off : ∀ c : Dev nD, k0_off2 c = ![(slot c).val * 40, 0] := by decide +kernel
theorem store_off : ∀ c : Dev nD, k0_off3 c = ![(slot c).val * 128, 0] := by decide +kernel
theorem chunk_off : ∀ c : Dev nD, k0_off4 c = ![(slot c).val * 128, 0] := by decide +kernel

/-! ## What the kernel computes -/

/-- Device `c`'s number and its partner's, as the kernel's words. -/
def ownW (c : Dev nD) : BitVec 32 := Scalar.remsi (Scalar.divsi (Dev.word c) 1#32) 8#32
def peerW (r : Fin 7) (c : Dev nD) : BitVec 32 := Scalar.xori (ownW c) (jw r)

theorem ownW_eq : ∀ c : Dev nD, ownW c = BitVec.ofNat 32 c.val := by decide +kernel
theorem peerW_eq : ∀ (r : Fin 7) (c : Dev nD), peerW r c = BitVec.ofNat 32 (peer r c).val := by decide +kernel

/-- Which of the 40 rows from device number `w` goes to which of the 128 rows of the chunk, as a matrix of zeros and ones. -/
def place (w : BitVec 32) (pos : IVec S8x40 32) (val : FVec F S8x40 .bf16) : FVec F S128x40 .bf16 :=
  let m : IVec S8x40 1 := cmpi .eq (iota .tc S8x40 32 [0] Gen.facts.iota_S8x40_d0_w32) (broadcast S8x40 w)
  let prow : IVec S1x40 32 := shapeCast S1x40 (multiReductionI .add [0] S40 (muli pos (extui 32 m Gen.facts.natLt_1_32)) 0#32
    Gen.facts.reduces_S8x40_S40 rfl) Gen.facts.shapeCasts_S40_S1x40
  let vrow : FVec F S1x40 .bf16 := truncf .bf16 (shapeCast S1x40 (multiReduction .add [0] S40
    (extf .f32 (mulf val (truncf .bf16 (sitofp .f32 (extui 32 m Gen.facts.natLt_1_32)) Gen.facts.bitsLt_bf16_f32)) Gen.facts.bitsLt_bf16_f32)
    0x00000000#32 Gen.facts.reduces_S8x40_S40 (.inl rfl) rfl) Gen.facts.shapeCasts_S40_S1x40) Gen.facts.bitsLt_bf16_f32
  let eq : FVec F S128x40 .bf16 := truncf .bf16 (sitofp .f32 (extui 32 (cmpi .eq (iota .tc S128x40 32 [0] Gen.facts.iota_S128x40_d0_w32)
    (broadcastTo S128x40 prow Gen.facts.broadcasts_S1x40_S128x40)) Gen.facts.natLt_1_32)) Gen.facts.bitsLt_bf16_f32
  mulf eq (broadcastTo S128x40 vrow Gen.facts.broadcasts_S1x40_S128x40)

/-- The 40 rows `y` from device number `w`, placed. -/
def placed (w : BitVec 32) (pos : IVec S8x40 32) (val : FVec F S8x40 .bf16) (y : FVec F S40x512 .bf16) : FVec F S128x512 .f32 :=
  matmul dot_S128x40_S40x512_S128x512_1_0_0_1_n_n none (place w pos val) y (constant S128x512 .f32 0x00000000#32)

def posC (x : Vec F S8x40 .i32) : IVec S8x40 32 := shapeCast S8x40 x Gen.facts.shapeCasts_S8x40_S8x40
def valC (x : Vec F S8x40 .bf16) : FVec F S8x40 .bf16 := shapeCast S8x40 x Gen.facts.shapeCasts_S8x40_S8x40

/-- The sum before the exchanges: the device's own rows. -/
def acc0 (c : Dev nD) (pos : Vec F S8x40 .i32) (val : Vec F S8x40 .bf16) (x : Vec F S40x512 .bf16) : FVec F S128x512 .f32 :=
  placed (ownW c) (posC (F := F) pos) (valC val) (shapeCast S40x512 x Gen.facts.shapeCasts_S40x512_S40x512)
/-- One exchange's rows added. -/
def accS (r : Fin 7) (c : Dev nD) (pos : Vec F S8x40 .i32) (val : Vec F S8x40 .bf16) (acc : FVec F S128x512 .f32) (y : Vec F S1x40x512 .bf16) :
    FVec F S128x512 .f32 :=
  addf acc (placed (peerW r c) (posC (F := F) pos) (valC val) (shapeCast S40x512 y Gen.facts.shapeCasts_S1x40x512_S40x512))
/-- The sum rounded to the result's format. -/
def accT (acc : FVec F S128x512 .f32) : FVec F S128x512 .bf16 := truncf .bf16 acc Gen.facts.bitsLt_bf16_f32

/-! ## The body as a program over the exchanges -/

abbrev P₀ (F : FTy → Type) : Type → Type _ := Prog (TpuEff nD τ sig (Elt F) Λ₀ .tc)

/-- Tell each partner that this device's buffers are ready. -/
def signals (c : Dev nD) {α : Type} : List (Fin 7) → P₀ F α → P₀ F α
  | [], k => k
  | r :: l, k => .op (.semSignal (sigDev r c, .tc) barS (1#32).toInt) fun _ => signals c l k

/-- Send each partner the rows it needs. -/
def sendRows (c : Dev nD) {α : Type} : List (Fin 7) → P₀ F α → P₀ F α
  | [], k => k
  | r :: l, k => .op (.enqueueDma (sendM r c) (.remote (Dev.tc (rowDev r c)) (landM r) (.dma (sS r))) (.dma (rS r))
      (bWhole.wordExact_slice rfl _ (Gen.k0_off1_wordsbf16 c r)) ((rWhole.wordExact_slice rfl _ (landWords r)).reshape _ _)
      ⟨⟨rfl, Or.inl rfl⟩, trivial⟩) fun _ => sendRows c l k

/-- Take each partner's rows and add them up. -/
def takeRows (c : Dev nD) (pos : Vec F S8x40 .i32) (val : Vec F S8x40 .bf16) {α : Type} :
    List (Fin 7) → FVec F S128x512 .f32 → (FVec F S128x512 .f32 → P₀ F α) → P₀ F α
  | [], acc, k => k acc
  | r :: l, acc, k => .op (.waitDma2 (rS r) (sendM r c) (landM r)
      (bWhole.wordExact_slice rfl _ (Gen.k0_off1_wordsbf16 c r)) ((rWhole.wordExact_slice rfl _ (landWords r)).reshape _ _)) fun _ =>
    .op (.load rM (landRect r).toLoadRect (View.loadsAt_vmem Gen.facts.h_S1x40x512)) fun y =>
    takeRows c pos val l (accS r c pos val acc y) k

/-- Send each partner the assembled chunk. -/
def sendChunks (c : Dev nD) {α : Type} : List (Fin 7) → P₀ F α → P₀ F α
  | [], k => k
  | r :: l, k => .op (.enqueueDma (chunkM c) (.remote (Dev.tc (outDev r c)) (chunkM c) (.dma (tS r))) (.dma (uS r))
      (oWhole.wordExact_slice rfl _ (Gen.k0_off4_wordsbf16 c)) (oWhole.wordExact_slice rfl _ (Gen.k0_off4_wordsbf16 c))
      ⟨⟨rfl, Or.inl rfl⟩, trivial⟩) fun _ => sendChunks c l k

/-- Wait for each partner's chunk. -/
def takeChunks (c : Dev nD) {α : Type} : List (Fin 7) → P₀ F α → P₀ F α
  | [], k => k
  | r :: l, k => .op (.waitDma2 (uS r) (chunkM c) (chunkM c)
      (oWhole.wordExact_slice rfl _ (Gen.k0_off4_wordsbf16 c)) (oWhole.wordExact_slice rfl _ (Gen.k0_off4_wordsbf16 c))) fun _ => takeChunks c l k

/-- Wait until each of this device's transfers has been read. -/
def drain (c : Dev nD) {α : Type} : List (Fin 7) → P₀ F α → P₀ F α
  | [], k => k
  | r :: l, k => .op (.waitDma2 (sS r) (landM r) (sendM r c)
      ((rWhole.wordExact_slice rfl _ (landWords r)).reshape _ _) (bWhole.wordExact_slice rfl _ (Gen.k0_off1_wordsbf16 c r))) fun _ =>
    .op (.waitDma2 (tS r) (chunkM c) (chunkM c)
      (oWhole.wordExact_slice rfl _ (Gen.k0_off4_wordsbf16 c)) (oWhole.wordExact_slice rfl _ (Gen.k0_off4_wordsbf16 c))) fun _ => drain c l k

abbrev rect0 : Rect S8x40 := Rect.unit (s := S8x40) ![0, 0] S8x40.size Gen.facts.inb_S8x40_S8x40_0_0

/-- The kernel's body. -/
def body : P₀ F PUnit :=
  .op .deviceId fun c =>
  signals c [0, 1, 2, 3, 4, 5, 6] <|
  .op (.semWait barS (7#32).toInt) fun _ =>
  sendRows c order <|
  .op (.load pM rect0.toLoadRect (View.loadsAt_vmem Gen.facts.h_S8x40)) fun pos =>
  .op (.load vM rect0.toLoadRect (View.loadsAt_vmem Gen.facts.h_S8x40)) fun val =>
  .op (.load bM (ownRect c).toLoadRect (View.loadsAt_vmem Gen.facts.h_S40x512)) fun x =>
  takeRows c pos val order (acc0 c pos val x) fun acc =>
  .op (.load oM (storeRect c).toLoadRect (View.loadsAt_vmem Gen.facts.h_S128x512)) fun _ =>
  .op (.store oM (storeRect c) (accT acc) Finset.univ (View.stores_vmem Gen.facts.h_S128x512 (oWhole.storeExact_slice rfl _ (Gen.k0_off3_packedbf16 c)) (fun _ => rfl)) (.inl rfl)) fun _ =>
  sendChunks c order <| takeChunks c order <| drain c order <| .ret ⟨⟩

set_option maxRecDepth 65536 in
/-- The printed body, at the buffers the launch gives it, is this program. -/
theorem body_eq : cc0_body (F := F) bM (Memref.isWhole_whole _) pM (Memref.isWhole_whole _) vM (Memref.isWhole_whole _) oM (Memref.isWhole_whole _)
    rM (Memref.isWhole_whole _) cc0_scratch1 cc0_scratch2 cc0_scratch3 cc0_scratch4 = body (F := F) := rfl

end Cert.Lookup
-- ==== Proof.Contents.lean ====
/- What the buffers hold during the exchanges, and how their elements are shared out among the transfers. -/
module

public import proofs.«01_k».proof.Proof.Common

@[expose] public section

noncomputable section

namespace Cert.Lookup

open Cert.KernelIdeal Cert.KernelIdeal.Gen Cert.KernelIdeal.Facts₀

open Idealize.ShloMosaic
open Idealize.ShloMosaic.TcCoe
open Idealize.SL Idealize.SL.Sem

variable {F : FTy → Type} [FloatOps F]

/-- What each device brings to the kernel: the rows it sends, and for the 8 × 40 rows it will hold, where they go and which count. -/
structure Input (F : FTy → Type) where
  rows : Dev nD → Vec F S320x512 .bf16
  pos : Dev nD → Vec F S8x40 .i32
  val : Dev nD → Vec F S8x40 .bf16

variable (A : Input F)

/-! ## Elements -/

/-- The device that assembles a chunk. -/
def owner : Fin 8 → Dev nD := ![0, 4, 3, 7, 1, 5, 2, 6]
theorem slot_owner : ∀ q : Fin 8, slot (owner q) = q := by decide
theorem owner_slot : ∀ c : Dev nD, owner (slot c) = c := by decide

/-- The elements of the sending buffer that go to device `d`. -/
def rowSet (d : Dev nD) : Finset S320x512.Idx := Finset.univ.filter fun i => (i 0).val / 40 = (slot d).val
/-- The elements of the landing buffer of exchange `r`. -/
def landSet (r : Fin 7) : Finset S7x40x512.Idx := Finset.univ.filter fun i => (i 0).val = r.val
/-- The elements of the result that device `d` assembles. -/
def chunkSet (d : Dev nD) : Finset S1024x512.Idx := Finset.univ.filter fun i => (i 0).val / 128 = (slot d).val

theorem sendM_set (r : Fin 7) (c : Dev nD) : (sendM r c).view.set = rowSet (peer r c) := by
  refine (View.set_slice_whole _ _).trans ?_
  ext i
  rw [Rect.mem_set_unit, send_off, rowSet, Finset.mem_filter]
  have h1 : (i 1).val < 512 := (i 1).isLt
  constructor
  · intro h
    have := h 0
    refine ⟨Finset.mem_univ _, ?_⟩
    simp only [Matrix.cons_val_zero, S40x512] at this
    omega
  · rintro ⟨-, h⟩ a
    fin_cases a
    · simp only [Matrix.cons_val_zero, S40x512, Fin.zero_eta]; omega
    · simp only [Matrix.cons_val_one, S40x512, Fin.mk_one]; exact ⟨Nat.zero_le _, by simpa using h1⟩

theorem own_set (c : Dev nD) : (ownRect c).set = rowSet c := by
  ext i
  rw [Rect.mem_set_unit, own_off, rowSet, Finset.mem_filter]
  have h1 : (i 1).val < 512 := (i 1).isLt
  constructor
  · intro h
    have := h 0
    refine ⟨Finset.mem_univ _, ?_⟩
    simp only [Matrix.cons_val_zero, S40x512] at this
    omega
  · rintro ⟨-, h⟩ a
    fin_cases a
    · simp only [Matrix.cons_val_zero, S40x512, Fin.zero_eta]; omega
    · simp only [Matrix.cons_val_one, S40x512, Fin.mk_one]; exact ⟨Nat.zero_le _, by simpa using h1⟩

theorem landRect_set (r : Fin 7) : (landRect r).set = landSet r := by
  ext i
  rw [Rect.mem_set_unit, landSet, Finset.mem_filter]
  have h1 : (i 1).val < 40 := (i 1).isLt
  have h2 : (i 2).val < 512 := (i 2).isLt
  constructor
  · intro h
    have := h 0
    refine ⟨Finset.mem_univ _, ?_⟩
    simp only [Matrix.cons_val_zero, S1x40x512] at this
    omega
  · rintro ⟨-, h⟩ a
    fin_cases a
    · simp only [Matrix.cons_val_zero, S1x40x512, Fin.zero_eta]; omega
    · exact ⟨Nat.zero_le _, by simpa [S1x40x512] using h1⟩
    · exact ⟨Nat.zero_le _, by simpa [S1x40x512] using h2⟩

theorem landM_set (r : Fin 7) : (landM r).view.set = landSet r :=
  (View.set_reshape _ _).trans ((View.set_slice_whole _ _).trans (landRect_set r))

theorem set_of_off (c : Dev nD) {f : Fin 2 → Nat} (hf : ∀ a, f a + S128x512.size a ≤ S1024x512.size a) (h : f = ![(slot c).val * 128, 0]) :
    (Rect.unit (s := S1024x512) f S128x512.size hf).set = chunkSet c := by
  ext i
  rw [Rect.mem_set_unit, h, chunkSet, Finset.mem_filter]
  have h1 : (i 1).val < 512 := (i 1).isLt
  constructor
  · intro h
    have := h 0
    refine ⟨Finset.mem_univ _, ?_⟩
    simp only [Matrix.cons_val_zero, S128x512] at this
    omega
  · rintro ⟨-, h⟩ a
    fin_cases a
    · simp only [Matrix.cons_val_zero, S128x512, Fin.zero_eta]; omega
    · simp only [Matrix.cons_val_one, S128x512, Fin.mk_one]; exact ⟨Nat.zero_le _, by simpa using h1⟩

theorem chunkM_set (c : Dev nD) : (chunkM c).view.set = chunkSet c := (View.set_slice_whole _ _).trans (set_of_off c _ (chunk_off c))

theorem rowSet_disjoint {c d : Dev nD} (h : c ≠ d) : Disjoint (rowSet c) (rowSet d) := by
  rw [Finset.disjoint_left]
  intro i hc hd
  rw [rowSet, Finset.mem_filter] at hc hd
  exact h (slot_inj c d (Fin.ext (hc.2.symm.trans hd.2)))
theorem chunkSet_disjoint {c d : Dev nD} (h : c ≠ d) : Disjoint (chunkSet c) (chunkSet d) := by
  rw [Finset.disjoint_left]
  intro i hc hd
  rw [chunkSet, Finset.mem_filter] at hc hd
  exact h (slot_inj c d (Fin.ext (hc.2.symm.trans hd.2)))
theorem landSet_disjoint {r r' : Fin 7} (h : r ≠ r') : Disjoint (landSet r) (landSet r') := by
  rw [Finset.disjoint_left]
  intro i hc hd
  rw [landSet, Finset.mem_filter] at hc hd
  exact h (Fin.ext (hc.2.symm.trans hd.2))

theorem rowSet_cover : (Finset.univ : Finset (Dev nD)).biUnion rowSet = Finset.univ := by
  ext i
  have h0 : (i 0).val < 320 := (i 0).isLt
  simp only [Finset.mem_biUnion, Finset.mem_univ, true_and, iff_true]
  refine ⟨owner ⟨(i 0).val / 40, by omega⟩, ?_⟩
  rw [rowSet, Finset.mem_filter, slot_owner]
  exact ⟨Finset.mem_univ _, rfl⟩
theorem chunkSet_cover : (Finset.univ : Finset (Dev nD)).biUnion chunkSet = Finset.univ := by
  ext i
  have h0 : (i 0).val < 1024 := (i 0).isLt
  simp only [Finset.mem_biUnion, Finset.mem_univ, true_and, iff_true]
  refine ⟨owner ⟨(i 0).val / 128, by omega⟩, ?_⟩
  rw [chunkSet, Finset.mem_filter, slot_owner]
  exact ⟨Finset.mem_univ _, rfl⟩
theorem landSet_cover : (Finset.univ : Finset (Fin 7)).biUnion landSet = Finset.univ := by
  ext i
  simp only [Finset.mem_biUnion, Finset.mem_univ, true_and, iff_true]
  exact ⟨(i 0 : Fin 7), Finset.mem_filter.mpr ⟨Finset.mem_univ _, rfl⟩⟩

/-! ## Contents -/

/-- What exchange `r` leaves in device `c`'s landing buffer (its own elements; elsewhere nothing is said). -/
def landV (r : Fin 7) (c : Dev nD) : Vec F S7x40x512 .bf16 :=
  (landM r).view.write (Elt F) (constant (F := F) S7x40x512 .bf16 0x0000#16 : Vec F S7x40x512 .bf16)
    ((sendM r (peer r c)).view.read (Elt F) (A.rows (peer r c))) Finset.univ

/-- What device `c` reads back of exchange `r`, and of its own rows. -/
def gotten (r : Fin 7) (c : Dev nD) : Vec F S1x40x512 .bf16 := rM.view.readAt (Elt F) (landRect r).toLoadRect (landV A r c)
def kept (c : Dev nD) : Vec F S40x512 .bf16 := bM.view.readAt (Elt F) (ownRect c).toLoadRect (A.rows c)

/-- The sum over a list of exchanges. -/
def accL (c : Dev nD) : List (Fin 7) → FVec F S128x512 .f32 → FVec F S128x512 .f32
  | [], acc => acc
  | r :: l, acc => accL c l (accS r c (A.pos c) (A.val c) acc (gotten A r c))

/-- The chunk that device `c` assembles. -/
def chunkV (c : Dev nD) : FVec F S128x512 .bf16 := accT (accL A c order (acc0 c (A.pos c) (A.val c) (kept A c)))

/-- The whole result, the same on every device. -/
def outV : Vec F S1024x512 .bf16 := fun i =>
  chunkV A (owner ⟨(i 0).val / 128, by have : (i 0).val < 1024 := (i 0).isLt; omega⟩)
    (fun a => match a with
      | 0 => ⟨(i 0).val % 128, Nat.mod_lt _ (by decide)⟩
      | 1 => i 1)

theorem outV_emb (c : Dev nD) {f : Fin 2 → Nat} (hf : ∀ a, f a + S128x512.size a ≤ S1024x512.size a) (h : f = ![(slot c).val * 128, 0]) (x : S128x512.Idx) :
    outV A ((Rect.unit (s := S1024x512) f S128x512.size hf).emb x) = chunkV A c x := by
  subst h
  set i := (Rect.unit (s := S1024x512) ![(slot c).val * 128, 0] S128x512.size hf).emb x with hi
  have h0 : (i 0).val = (slot c).val * 128 + (x 0).val := by
    rw [hi, Rect.emb_apply]
    show (slot c).val * 128 + 1 * (x 0).val = _
    omega
  have h1 : (i 1).val = (x 1).val := by
    rw [hi, Rect.emb_apply]
    show 0 + 1 * (x 1).val = _
    omega
  have hx : (x 0).val < 128 := (x 0).isLt
  have hs := (slot c).isLt
  unfold outV
  have e : (⟨(i 0).val / 128, by have : (i 0).val < 1024 := (i 0).isLt; omega⟩ : Fin 8) = slot c :=
    Fin.ext (by show (i 0).val / 128 = (slot c).val; omega)
  rw [e, owner_slot]
  congr 1
  funext a
  match a with
  | 0 => exact Fin.ext (by show (i 0).val % 128 = (x 0).val; omega)
  | 1 => exact Fin.ext h1

/-- Writing through a view twice: only the second payload remains, whatever was there before. -/
theorem write_agrees {κ} {sp} {s : Shape} {e : EltTy} (v : View sig κ sp s e) (f g : v.ty.Contents (Elt F))
    (w : s.Idx → Elt F e) : ∀ i ∈ v.set, v.write (Elt F) f w Finset.univ i = v.write (Elt F) g w Finset.univ i := by
  intro i hi
  obtain ⟨x, -, rfl⟩ := Finset.mem_map.mp hi
  rw [View.write_emb_of_mem _ _ (Finset.mem_univ x), View.write_emb_of_mem _ _ (Finset.mem_univ x)]

/-- Writing back what is read changes nothing. -/
theorem write_read_agrees {κ} {sp} {s : Shape} {e : EltTy} (v : View sig κ sp s e) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem _ _ (Finset.mem_univ x), View.read_apply, cast_cast, cast_eq]

theorem land_agrees (r : Fin 7) (c : Dev nD) (f : Vec F S7x40x512 .bf16) : ∀ i ∈ landSet r,
    (landM r).view.write (Elt F) f ((sendM r (peer r c)).view.read (Elt F) (A.rows (peer r c))) Finset.univ i = landV A r c i := by
  intro i hi
  exact write_agrees (landM r).view f _ _ i ((landM_set r).symm ▸ hi)

theorem chunk_agrees (c : Dev nD) (f : Vec F S1024x512 .bf16) : ∀ i ∈ chunkSet c,
    (chunkM c).view.write (Elt F) f ((chunkM c).view.read (Elt F) (outV A)) Finset.univ i = outV A i := by
  intro i hi
  exact write_read_agrees (chunkM c).view f _ i ((chunkM_set c).symm ▸ hi)

theorem store_set (c : Dev nD) : (oM.access (storeRect c)).set = chunkSet c :=
  (View.set_slice_whole _ _).trans (set_of_off c _ (store_off c))

theorem store_read (c : Dev nD) : (oM.access (storeRect c)).read (Elt F) (outV A) = chunkV A c := funext fun x => by
  rw [View.read_apply]
  exact outV_emb A c _ (store_off c) x

theorem store_agrees (c : Dev nD) (f : Vec F S1024x512 .bf16) : ∀ i ∈ chunkSet c,
    (oM.access (storeRect c)).write (Elt F) f (chunkV A c) Finset.univ i = outV A i := by
  rw [← store_read]
  intro i hi
  exact write_read_agrees (oM.access (storeRect c)) f _ i ((store_set c).symm ▸ hi)

end Cert.Lookup
-- ==== Proof.Sched.lean ====
/- The exchanges as a protocol: who pays which semaphore, what each payment hands over, what each device owes at the start,
   and the order of the semaphores that rules out deadlock. -/
module

public import proofs.«01_k».proof.Proof.Contents
public import Idealize.ShloMosaic.Lib.Pipeline.BigSepL
public import Idealize.ShloMosaic.Lib.Ring.Tabled

@[expose] public section

noncomputable section

namespace Cert.Lookup

open Cert.KernelIdeal Cert.KernelIdeal.Gen Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (A : Input F)

/-! ## The cells -/

/-- The kernel's semaphores: of kind 0 to 3, rows sent, rows landed, chunk sent, chunk landed. -/
def dsem (k : Fin 4) (r : Fin 7) : DmaSem sig := match k with
  | 0 => sS r | 1 => rS r | 2 => tS r | 3 => uS r
/-- Which semaphore of the kernel's own a number names. -/
def kindOf (q : DmaSem sig) : Option (Fin 4 × Fin 7) :=
  if h : 4 ≤ q.val then
    some (⟨(q.val - 4) / 7, by have : q.val < 32 := q.isLt; omega⟩, ⟨(q.val - 4) % 7, Nat.mod_lt _ (by decide)⟩)
  else none
theorem kindOf_dsem : ∀ k r, kindOf (dsem k r) = some (k, r) := by decide

abbrev osem (kr : Fin 4 × Fin 7) : SemLoc sig := .dma (dsem kr.1 kr.2)

abbrev barCell (c : Dev nD) : GSem nD τ sig := ((c : Thread nD τ), .reg barS)
abbrev dCell (k : Fin 4) (r : Fin 7) (c : Dev nD) : GSem nD τ sig := ((c : Thread nD τ), .dma (dsem k r))

/-- What a transfer of 40 rows, and of a chunk, adds to a semaphore. -/
abbrev N₁ : ℕ := (landM 0).view.dmaCredit
abbrev N₂ : ℕ := (chunkM 0).view.dmaCredit
theorem N₁_pos : 0 < N₁ := View.dmaCredit_pos _ (by decide)
theorem N₂_pos : 0 < N₂ := View.dmaCredit_pos _ (by decide)
def credit (k : Fin 4) : ℕ := if k.val < 2 then N₁ else N₂
theorem credit_pos (k : Fin 4) : 0 < credit k := by
  unfold credit; split
  · exact N₁_pos
  · exact N₂_pos

theorem land_credit (r : Fin 7) : (landM r).view.dmaCredit = N₁ := rfl
theorem send_credit (r : Fin 7) (c : Dev nD) : (sendM r c).view.dmaCredit = N₁ := rfl
theorem chunk_credit (c : Dev nD) : (chunkM c).view.dmaCredit = N₂ := rfl

/-! ## Holding parts of the buffers -/

abbrev bPt (c : Dev nD) (S : Finset S320x512.Idx) (f : Vec F S320x512 .bf16) : sProp 𝕄 := ((c : Thread nD τ).loc cc0_stg0_0) ↦[S]{fullShare} f
abbrev lPt (c : Dev nD) (S : Finset S7x40x512.Idx) (f : Vec F S7x40x512 .bf16) : sProp 𝕄 := ((c : Thread nD τ).loc cc0_scratch0) ↦[S]{fullShare} f
abbrev oPt (c : Dev nD) (S : Finset S1024x512.Idx) (q : PosShare TreeShare) (f : Vec F S1024x512 .bf16) : sProp 𝕄 :=
  ((c : Thread nD τ).loc cc0_stg3_0) ↦[S]{q} f

/-- The seven parts of a device's chunk that its seven transfers read. -/
def part (r : Fin 7) : PosShare TreeShare := Ring.sharesN 7 fullShare r

/-! ## The schedule -/

/-- What the partner's signal in exchange `r` hands device `c`: the partner's landing buffer for the exchange, the
    partner's elements of `c`'s chunk, and that the partner's two landing semaphores are in use. -/
def barPay (c : Dev nD) (r : Fin 7) : sProp 𝕄 :=
  iprop((∃ f, lPt (peer r c) (landSet r) f) ∗ (∃ f, oPt (peer r c) (chunkSet c) fullShare f)
    ∗ reached ER (dCell 1 r (peer r c)) 0 ∗ reached ER (dCell 3 r (peer r c)) 0)

/-- What a finished transfer hands the owner of its semaphore. -/
def dPay (k : Fin 4) (r : Fin 7) (c : Dev nD) : sProp 𝕄 := match k with
  | 0 => bPt c (rowSet (peer r c)) (A.rows c)
  | 1 => lPt c (landSet r) (landV A r c)
  | 2 => oPt c (chunkSet c) (part r) (outV A)
  | 3 => oPt c (chunkSet (peer r c)) fullShare (outV A)

omit [FloatOps F] in
instance barPay_storable (c : Dev nD) (r : Fin 7) : BI.Storable (upEmb : UEmb _ 𝕄) (barPay (F := F) c r) := by unfold barPay; infer_instance
instance dPay_storable (k : Fin 4) (r : Fin 7) (c : Dev nD) : BI.Storable (upEmb : UEmb _ 𝕄) (dPay (F := F) A k r c) := by
  unfold dPay; split <;> infer_instance

/-- The semaphores of a launch are used for one round. -/
def sched : Rounds.Schedule (GSem nD τ sig) (Fin 7) 𝕄 where
  duties g n := if n = 0 ∧ g.1.2 = .tc then
      (match g.2 with | .reg _ => Finset.univ | .dma q => (match kindOf q with | some _ => {0} | none => ∅))
    else ∅
  unitless _ := False
  amount g _ _ := match g.2 with | .reg _ => 1 | .dma q => (match kindOf q with | some kr => credit kr.1 | none => 1)
  payload g _ d := match g.2 with
    | .reg _ => barPay g.1.1 d
    | .dma q => (match kindOf q with | some kr => dPay A kr.1 kr.2 g.1.1 | none => iprop(emp))
  amount_pos g _ _ _ := by
    split
    · exact Nat.one_pos
    · split
      · exact credit_pos _
      · exact Nat.one_pos

instance sched_storable (g : GSem nD τ sig) (n : ℕ) (d : Fin 7) : BI.Storable (upEmb : UEmb _ 𝕄) ((sched (F := F) A).payload g n d) := by
  show BI.Storable upEmb (match g.2 with
    | .reg _ => barPay g.1.1 d
    | .dma q => (match kindOf q with | some kr => dPay A kr.1 kr.2 g.1.1 | none => iprop(emp)))
  split
  · infer_instance
  · split <;> infer_instance

theorem duties_bar (c : Dev nD) : (sched A).duties (barCell c) 0 = Finset.univ := by
  dsimp only [sched]; exact if_pos ⟨rfl, rfl⟩
theorem duties_d (k : Fin 4) (r : Fin 7) (c : Dev nD) : (sched A).duties (dCell k r c) 0 = {0} := by
  dsimp only [sched]; rw [if_pos ⟨rfl, rfl⟩, kindOf_dsem]
theorem duties_later (g : GSem nD τ sig) : ∀ n, 1 ≤ n → (sched A).duties g n = ∅ := fun n hn => by
  dsimp only [sched]; exact if_neg (fun h => by omega)

theorem amount_bar (c : Dev nD) (d : Fin 7) : (sched A).amount (barCell c) 0 d = 1 := rfl
theorem amount_d (k : Fin 4) (r : Fin 7) (c : Dev nD) (d : Fin 7) : (sched A).amount (dCell k r c) 0 d = credit k := by
  dsimp only [sched]; rw [kindOf_dsem]

theorem expect_bar (c : Dev nD) : (sched A).expect (barCell c) 0 = 7 := by
  unfold Schedule.expect Schedule.amountOf
  rw [duties_bar, Finset.sum_congr rfl fun d _ => amount_bar A c d]; rfl
theorem expect_d (k : Fin 4) (r : Fin 7) (c : Dev nD) : (sched A).expect (dCell k r c) 0 = credit k := by
  unfold Schedule.expect Schedule.amountOf; rw [duties_d, Finset.sum_singleton, amount_d]

theorem payload_bar (c : Dev nD) (d : Fin 7) : (sched A).payload (barCell c) 0 d = barPay c d := rfl
theorem payload_d (k : Fin 4) (r : Fin 7) (c : Dev nD) (d : Fin 7) : (sched A).payload (dCell k r c) 0 d = dPay A k r c := by
  dsimp only [sched]; rw [kindOf_dsem]

theorem rest_bar (c : Dev nD) : bigSep ((sched A).duties (barCell c) 0 \ ∅) (fun d => (sched A).payload (barCell c) 0 d)
    = bigSepL order fun r => barPay (F := F) c r := by
  rw [Finset.sdiff_empty, duties_bar, bigSep_univ_eq_bigSepL order (by decide) (by decide)]; rfl
theorem rest_d (k : Fin 4) (r : Fin 7) (c : Dev nD) :
    bigSep ((sched A).duties (dCell k r c) 0 \ ∅) (fun d => (sched A).payload (dCell k r c) 0 d) = dPay A k r c := by
  rw [Finset.sdiff_empty, duties_d, bigSep_singleton, payload_d]

/-! ## What a device owes, and the order of the semaphores -/

/-- The sum of what is owed over a list of exchanges. -/
def owing (f : Fin 7 → CellTallies nD τ sig Unit) : List (Fin 7) → CellTallies nD τ sig Unit
  | [] => 0
  | r :: l => owing f l + f r

theorem owing_pos {f : Fin 7 → CellTallies nD τ sig Unit} {l : List (Fin 7)} {g : GSem nD τ sig} {u : Unit} (h : 0 < owing f l g u) :
    ∃ r, 0 < f r g u := by
  induction l with
  | nil => exact absurd h (Nat.lt_irrefl 0)
  | cons r l ih =>
    rw [owing, Pi.add_apply, Finsupp.add_apply] at h
    rcases Nat.add_pos_iff_pos_or_pos.mp h with h | h
    · exact ih h
    · exact ⟨r, h⟩

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

/-- A signal to each partner; rows to each partner; a chunk to each partner. -/
abbrev oBar (c : Dev nD) (r : Fin 7) : CellTallies nD τ sig Unit := tallyAt (barCell (peer r c)) () 1
abbrev oRow (c : Dev nD) (r : Fin 7) : CellTallies nD τ sig Unit := tallyAt (dCell 1 r (peer r c)) () N₁
abbrev oChk (c : Dev nD) (r : Fin 7) : CellTallies nD τ sig Unit := tallyAt (dCell 3 r (peer r c)) () N₂

abbrev signalOrder : List (Fin 7) := [0, 1, 2, 3, 4, 5, 6]
abbrev O₂ (c : Dev nD) : CellTallies nD τ sig Unit := owing (oChk c) order
abbrev O₁ (c : Dev nD) : CellTallies nD τ sig Unit := owing (oRow c) order + O₂ c
abbrev O₀ (c : Dev nD) : CellTallies nD τ sig Unit := owing (oBar c) signalOrder + O₁ c

def L (g : GSem nD τ sig) : Finset Unit := if g.1.2 = .tc then {()} else ∅
/-- The barrier before the landing rows before the landing chunks; the rest before all. -/
def lv (g : GSem nD τ sig) (_ : Unit) : ℕ := match g.2 with
  | .reg _ => 1
  | .dma q => (match kindOf q with | some kr => (if kr.1 = 1 then 2 else if kr.1 = 3 then 3 else 0) | none => 0)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_d (k : Fin 4) (r : Fin 7) (c : Dev nD) (u : Unit) : lv (dCell k r c) u = if k = 1 then 2 else if k = 3 then 3 else 0 := by
  dsimp only [lv]; rw [kindOf_dsem]

theorem O₂_pos {c : Dev nD} {g : GSem nD τ sig} {u : Unit} (h : 0 < O₂ c g u) : ∃ r, g = dCell 3 r (peer r c) := by
  obtain ⟨r, hr⟩ := owing_pos h; exact ⟨r, tally_pos hr⟩
theorem O₁_pos {c : Dev nD} {g : GSem nD τ sig} {u : Unit} (h : 0 < O₁ c g u) :
    (∃ r, g = dCell 1 r (peer r c)) ∨ ∃ r, g = dCell 3 r (peer r c) := by
  unfold O₁ at h
  rw [Pi.add_apply, Finsupp.add_apply] at h
  rcases Nat.add_pos_iff_pos_or_pos.mp h with h | h
  · obtain ⟨r, hr⟩ := owing_pos h; exact .inl ⟨r, tally_pos hr⟩
  · exact .inr (O₂_pos h)
theorem O₀_pos {c : Dev nD} {g : GSem nD τ sig} {u : Unit} (h : 0 < O₀ c g u) :
    (∃ r, g = barCell (peer r c)) ∨ (∃ r, g = dCell 1 r (peer r c)) ∨ ∃ r, g = dCell 3 r (peer r c) := by
  unfold O₀ at h
  rw [Pi.add_apply, Finsupp.add_apply] at h
  rcases Nat.add_pos_iff_pos_or_pos.mp h with h | h
  · obtain ⟨r, hr⟩ := owing_pos h; exact .inl ⟨r, tally_pos hr⟩
  · exact .inr (O₁_pos h)

omit [FloatOps F] in
theorem mayWait_of (c : Dev nD) (sm : SemLoc sig) (O : CellTallies nD τ sig Unit) (n : ℕ) (hn : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

omit [FloatOps F] in
/-- At the barrier a device still owes its rows and its chunks. -/
theorem mayWait_bar (c : Dev nD) : (levAts L lv : sProp 𝕄) ⊢ MayWait (c : Thread nD τ) (.reg barS) () (O₁ c) :=
  mayWait_of c _ _ 1 (le_of_eq (lv_bar c ())) fun g u h => by
    rcases O₁_pos h with ⟨r, rfl⟩ | ⟨r, rfl⟩
    · exact ⟨rfl, by rw [lv_d]; decide⟩
    · exact ⟨rfl, by rw [lv_d]; decide⟩
omit [FloatOps F] in
/-- While it takes rows a device still owes its chunks. -/
theorem mayWait_row (r : Fin 7) (c : Dev nD) : (levAts L lv : sProp 𝕄) ⊢ MayWait (c : Thread nD τ) (.dma (dsem 1 r)) () (O₂ c) :=
  mayWait_of c _ _ 2 (le_of_eq (lv_d 1 r c ())) fun g u h => by
    obtain ⟨r, rfl⟩ := O₂_pos h
    exact ⟨rfl, by rw [lv_d]; decide⟩

end Cert.Lookup
-- ==== Proof.Steps.lean ====
/- The stretches of the kernel's body, each run over its list of exchanges. -/
module

public import proofs.«01_k».proof.Proof.Sched

@[expose] public section

noncomputable section

namespace Cert.Lookup

open Cert.KernelIdeal Cert.KernelIdeal.Gen Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Input F)

abbrev 𝒱₀ : Variants := Variants.none

/-! ## What every device may consult -/

def barEmb : Dev nD ↪ GSem nD τ sig := ⟨fun c => barCell c, fun _ _ h => congrArg (fun g : GSem nD τ sig => g.1.1) h⟩
theorem osem_inj : Function.Injective osem := by decide
def scEmb : Dev nD × (Fin 4 × Fin 7) ↪ GSem nD τ sig :=
  ⟨fun ck => dCell ck.2.1 ck.2.2 ck.1, fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem d_mem (k : Fin 4) (r : Fin 7) (c : Dev nD) : dCell k r c ∈ (barCells ∪ scCells : Finset (GSem nD τ sig)) :=
  Finset.mem_union_right _ (Finset.mem_map_of_mem scEmb (Finset.mem_univ (c, (k, r))))

/-- Every semaphore's invariant, and that the barriers are in use. -/
def records (K : GSem nD τ sig → ℕ) : sProp 𝕄 :=
  iprop((bigSep (barCells ∪ scCells) fun g => cellInv ER (sched A) (K g) g) ∗ bigSep barCells fun g => reached ER g 0)
instance records_persistent (K : GSem nD τ sig → ℕ) : BI.Persistent (records A K) := by unfold records; infer_instance

theorem inv_at (K : GSem nD τ sig → ℕ) {g : GSem nD τ sig} (hg : g ∈ (barCells ∪ scCells : Finset (GSem nD τ sig))) :
    (bigSep (barCells ∪ scCells) fun g => (cellInv ER (sched A) (K g) g : sProp 𝕄)) ⊢ cellInv ER (sched A) (K g) g :=
  bigSep_elim hg
omit [FloatOps F] in
theorem reached_at (c : Dev nD) : (bigSep barCells fun g => (reached ER g 0 : sProp 𝕄)) ⊢ reached ER (barCell c) 0 :=
  bigSep_elim (Finset.mem_map_of_mem barEmb (Finset.mem_univ c))

theorem rec_bar (K : GSem nD τ sig → ℕ) (c : Dev nD) : records A K ⊢ cellInv ER (sched A) (K (barCell c)) (barCell c) := by
  unfold records; iintro ⟨H, -⟩; iapply (inv_at A K (bar_mem c)); iexact H
theorem rec_d (K : GSem nD τ sig → ℕ) (k : Fin 4) (r : Fin 7) (c : Dev nD) : records A K ⊢ cellInv ER (sched A) (K (dCell k r c)) (dCell k r c) := by
  unfold records; iintro ⟨H, -⟩; iapply (inv_at A K (d_mem k r c)); iexact H
theorem rec_reached (K : GSem nD τ sig → ℕ) (c : Dev nD) : records A K ⊢ (reached ER (barCell c) 0 : sProp 𝕄) := by
  unfold records; iintro ⟨-, H⟩; iapply (reached_at (F := F) c); iexact H

/-- That a device's own semaphores are in use. -/
def ownReached (c : Dev nD) : sProp 𝕄 := bigSep Finset.univ fun kr : Fin 4 × Fin 7 => reached ER (dCell kr.1 kr.2 c) 0
omit [FloatOps F] in
instance ownReached_persistent (c : Dev nD) : BI.Persistent (ownReached (F := F) c) := by unfold ownReached; infer_instance
omit [FloatOps F] in
theorem own_reached (k : Fin 4) (r : Fin 7) (c : Dev nD) : ownReached (F := F) c ⊢ reached ER (dCell k r c) 0 := by
  unfold ownReached; exact bigSep_elim (Finset.mem_univ (k, r))

theorem owing_cons (f : Fin 7 → CellTallies nD τ sig Unit) (r : Fin 7) (l : List (Fin 7)) (O : CellTallies nD τ sig Unit) :
    owing f (r :: l) + O = (owing f l + O) + f r := add_right_comm _ _ _

/-! ## The stretches -/

theorem run_signals (K : GSem nD τ sig → ℕ) (c : Dev nD) (O : CellTallies nD τ sig Unit) (W : Waits sig Unit) {α : Type} (k : P₀ F α)
    (Q : α → sProp 𝕄) : ∀ l : List (Fin 7),
    iprop(records A K ∗ ownReached c ∗ owes (c : Thread nD τ) (owing (oBar c) l + O) W
        ∗ bigSepL l (fun r => iprop(dutyTok ER (barCell (peer r c)) 0 r ∗ (∃ f, lPt c (landSet r) f) ∗ ∃ f, oPt c (chunkSet (peer r c)) fullShare f)))
      ⊢ iprop((owes (c : Thread nD τ) O W -∗ wp frame (wpE (defs₀ (F := F)) 𝒱₀ (c : Thread nD τ) none) Set.univ k Q)
        -∗ wp frame (wpE (defs₀ (F := F)) 𝒱₀ (c : Thread nD τ) none) Set.univ (signals c l k) Q)
  | [] => by
    unfold owing signals
    rw [zero_add]
    iintro ⟨-, -, HO, -⟩ Hk
    iapply Hk; iexact HO
  | r :: l => by
    unfold signals
    rw [bigSepL_cons', sigDev_eq]
    iintro ⟨#HR, #HOwn, HO, ⟨Htok, Hl, Ho⟩, Hrest⟩ Hk
    iapply (Rounds.wp_signal 𝒱₀ ER (sched A) (c : Thread nD τ) none (dst := (peer r c : Thread nD τ)) (sem := barS) (r := 0) (d := r)
        (κ := K (barCell (peer r c))) (by rw [duties_bar]; exact Finset.mem_univ _) ((amount_bar A (peer r c) r).trans (by decide)) ()
        (owing (oBar c) l + O) (owing_cons (oBar c) r l O)) $$ [HO Htok Hl Ho]
    · isplitr; · iapply (rec_bar A K (peer r c)); iexact HR
      isplitl [HO]; · iexact HO
      isplitl [Htok]; · iexact Htok
      isplitl [Hl Ho]
      · rw [payload_bar]; unfold barPay; rw [peer_peer]
        isplitl [Hl]; · iexact Hl
        isplitl [Ho]; · iexact Ho
        isplitr; · iapply (own_reached 1 r c); iexact HOwn
        iapply (own_reached 3 r c); iexact HOwn
      · iapply (rec_reached A K (peer r c)); iexact HR
    iintro HO
    iapply (run_signals K c O W k Q l) $$ [HO Hrest]
    · isplitr; · iexact HR
      isplitr; · iexact HOwn
      isplitl [HO] <;> iassumption
    iexact Hk

/-- One exchange's rows sent. -/
theorem step_sendRow (K : GSem nD τ sig → ℕ) (c : Dev nD) (r : Fin 7) (n : Dev nD) (hn : n = peer r c) (O : CellTallies nD τ sig Unit)
    (W : Waits sig Unit) {α : Type} (k : PUnit → P₀ F α) (Q : α → sProp 𝕄) {hsrc : (sendM r c).view.WordExact} {hdst : (landM r).view.WordExact}
    {hsem : DmaTarget.Typed (nD := nD) (τ := τ) .vmem (.dma (rS r)) (.remote (Dev.tc n) (landM r) (.dma (sS r)))} :
    iprop(records A K ∗ ownReached c ∗ owes (c : Thread nD τ) (O + oRow c r) W
        ∗ ((dutyTok ER (dCell 0 r c) 0 0 ∗ dutyTok ER (dCell 1 r (peer r c)) 0 0) ∗ reached ER (dCell 1 r (peer r c)) 0
          ∗ bPt c (rowSet (peer r c)) (A.rows c) ∗ ∃ f, lPt (peer r c) (landSet r) f))
      ⊢ iprop(((cred (tallyAt (dCell 0 r c) () N₁) ∗ owes (c : Thread nD τ) O W)
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (sendM r c) (.remote (Dev.tc n) (landM r) (.dma (sS r))) (.dma (rS r)) hsrc hdst hsem) k) Q) := by
  subst hn
  iintro ⟨#HR, #HOwn, HO, ⟨Ht0, Ht1⟩, #Hrc, Hb, %f, Hl⟩
  ihave Hb' := (Entails.of_eq (congrArg (fun S => (((c : Thread nD τ).loc cc0_stg0_0) ↦[S]{fullShare} A.rows c : sProp 𝕄)) (sendM_set r c).symm)) $$ Hb
  ihave Hl' := (Entails.of_eq (congrArg (fun S => (((peer r c : Thread nD τ).loc cc0_scratch0) ↦[S]{fullShare} f : sProp 𝕄)) (landM_set r).symm)) $$ Hl
  iapply (Rounds.wp_send_pointsTo 𝒱₀ ER (sched A) (c : Thread nD τ) none (c' := (peer r c : Thread nD τ)) (src := sendM r c) (dst := landM r)
      (sS := .dma (sS r)) (sem := .dma (rS r)) (q := fullShare) (fs := A.rows c) (κ₁ := K (dCell 0 r c)) (κ₂ := K (dCell 1 r (peer r c)))
      (r₁ := 0) (r₂ := 0) (d₁ := 0) (d₂ := 0) (fd := f)
      ((duties_d A 0 r c).symm ▸ Finset.mem_singleton_self _) ((duties_d A 1 r (peer r c)).symm ▸ Finset.mem_singleton_self _)
      () () N₁ rfl (amount_d A 0 r c 0) (amount_d A 1 r (peer r c) 0) O rfl
      (by
        refine BI.Entails.trans ?_ (Entails.of_eq (payload_d A 0 r c 0).symm)
        exact Entails.of_eq (congrArg (fun S => (((c : Thread nD τ).loc cc0_stg0_0) ↦[S]{fullShare} A.rows c : sProp 𝕄)) (sendM_set r c)))
      (by
        refine BI.Entails.trans ?_ (Entails.of_eq (payload_d A 1 r (peer r c) 0).symm)
        refine BI.Entails.trans (Entails.of_eq (congrArg (fun S => (((peer r c : Thread nD τ).loc cc0_scratch0) ↦[S]{fullShare} _ : sProp 𝕄)) (landM_set r))) ?_
        refine Entails.of_eq (pointsTo_congr fun i hi => ?_)
        have := land_agrees A r (peer r c) f i hi
        rw [peer_peer] at this
        exact this)) $$ [Hb' Hl' HO Ht0 Ht1]
  isplitr; · iapply (rec_d A K 0 r c); iexact HR
  isplitr; · iapply (rec_d A K 1 r (peer r c)); iexact HR
  isplitl [Hb']; · iexact Hb'
  isplitl [Hl']; · iexact Hl'
  isplitl [HO]; · iexact HO
  isplitl [Ht0]; · iexact Ht0
  isplitr; · iapply (own_reached 0 r c); iexact HOwn
  isplitl [Ht1]; · iexact Ht1
  iexact Hrc

theorem run_sendRows (K : GSem nD τ sig → ℕ) (c : Dev nD) (O : CellTallies nD τ sig Unit) (W : Waits sig Unit) {α : Type} (k : P₀ F α)
    (Q : α → sProp 𝕄) : ∀ l : List (Fin 7),
    iprop(records A K ∗ ownReached c ∗ owes (c : Thread nD τ) (owing (oRow c) l + O) W
        ∗ bigSepL l (fun r => iprop((dutyTok ER (dCell 0 r c) 0 0 ∗ dutyTok ER (dCell 1 r (peer r c)) 0 0) ∗ reached ER (dCell 1 r (peer r c)) 0
          ∗ bPt c (rowSet (peer r c)) (A.rows c) ∗ ∃ f, lPt (peer r c) (landSet r) f)))
      ⊢ iprop((owes (c : Thread nD τ) O W ∗ bigSepL l (fun r => cred (tallyAt (dCell 0 r c) () N₁))
            -∗ wp frame (wpE (defs₀ (F := F)) 𝒱₀ (c : Thread nD τ) none) Set.univ k Q)
        -∗ wp frame (wpE (defs₀ (F := F)) 𝒱₀ (c : Thread nD τ) none) Set.univ (sendRows c l k) Q)
  | [] => by
    unfold owing sendRows
    rw [zero_add, bigSepL_nil, bigSepL_nil]
    iintro ⟨-, -, HO, H⟩ Hk
    iapply Hk; isplitl [HO]
    · iexact HO
    · iempintro
  | r :: l => by
    unfold sendRows
    rw [bigSepL_cons', bigSepL_cons', owing_cons]
    iintro ⟨#HR, #HOwn, HO, Hr, Hrest⟩ Hk
    iapply (step_sendRow A K c r (rowDev r c) (rowDev_eq r c) (owing (oRow c) l + O) W) $$ [HO Hr]
    · isplitr; · iexact HR
      isplitr; · iexact HOwn
      isplitl [HO] <;> iassumption
    iintro ⟨Hc, HO⟩
    iapply (run_sendRows K c O W k Q l) $$ [HO Hrest]
    · isplitr; · iexact HR
      isplitr; · iexact HOwn
      isplitl [HO] <;> iassumption
    iintro ⟨HO, Hcs⟩
    iapply Hk
    isplitl [HO]; · iexact HO
    isplitl [Hc]; · iexact Hc
    iexact Hcs

/-- A wait on one of the kernel's own semaphores, for the whole of what its transfer brings. -/
theorem step_wait (K : GSem nD τ sig → ℕ) (c : Dev nD) (j : Fin 4) (r : Fin 7) (O : CellTallies nD τ sig Unit) (W : Waits sig Unit) {α : Type}
    (k : PUnit → P₀ F α) (Q : α → sProp 𝕄) {s : Shape} {e : EltTy} {src dst : Memref sig .tc .vmem s e} {hsrc : src.view.WordExact}
    {hdst : dst.view.WordExact} (hcr : dst.view.dmaCredit = credit j) :
    iprop(records A K ∗ cred (tallyAt (dCell j r c) () (credit j)) ∗ owes (c : Thread nD τ) O W ∗ MayWait (c : Thread nD τ) (.dma (dsem j r)) () O
        ∗ atPos ER (dCell j r c) 0 ∅ 0)
      ⊢ iprop(((∃ W', owes (c : Thread nD τ) O W') ∗ atPos ER (dCell j r c) 1 ∅ 0 ∗ dPay A j r c
            -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (dsem j r) src dst hsrc hdst) k) Q) := by
  iintro ⟨#HR, Hc, HO, Hm, Hat⟩ Hk
  rw [← hcr]
  iapply (Rounds.wp_wait_rest_token 𝒱₀ ER (sched A) (c : Thread nD τ) none (κ := K (dCell j r c))
      (wpE_waitDma2_eq 𝒱₀ (c : Thread nD τ) none Set.univ) (Set.mem_univ _) () (O := O) (W := W) (R := 0) (m := 0) (T := ∅)
      ((Nat.zero_add _).trans (hcr.trans (expect_d A j r c).symm))) $$ [Hc HO Hm Hat]
  · isplitr; · iapply (rec_d A K j r c); iexact HR
    isplitl [Hc]; · iexact Hc
    isplitl [HO]; · iexact HO
    isplitl [Hm] <;> iassumption
  iintro ⟨HO, Hat, -, Hpay⟩
  iapply Hk
  isplitl [HO]; · iexists _; iexact HO
  isplitl [Hat]; · iexact Hat
  iapply (Entails.of_eq (rest_d A j r c)); iexact Hpay

theorem run_takeRows (K : GSem nD τ sig → ℕ) (c : Dev nD) {α : Type} (k : FVec F S128x512 .f32 → P₀ F α)
    (Q : α → sProp 𝕄) : ∀ (l : List (Fin 7)) (acc : FVec F S128x512 .f32) (W : Waits sig Unit),
    iprop(records A K ∗ levAts L lv ∗ owes (c : Thread nD τ) (O₂ c) W
        ∗ bigSepL l (fun r => iprop(cred (tallyAt (dCell 1 r c) () N₁) ∗ atPos ER (dCell 1 r c) 0 ∅ 0)))
      ⊢ iprop(((∃ W', owes (c : Thread nD τ) (O₂ c) W') ∗ bigSepL l (fun r => iprop(atPos ER (dCell 1 r c) 1 ∅ 0 ∗ lPt c (landSet r) (landV A r c)))
            -∗ wp frame (wpE (defs₀ (F := F)) 𝒱₀ (c : Thread nD τ) none) Set.univ (k (accL A c l acc)) Q)
        -∗ wp frame (wpE (defs₀ (F := F)) 𝒱₀ (c : Thread nD τ) none) Set.univ (takeRows c (A.pos c) (A.val c) l acc k) Q)
  | [], acc, W => by
    unfold takeRows accL
    rw [bigSepL_nil, bigSepL_nil]
    iintro ⟨-, -, HO, H⟩ Hk
    iapply Hk; isplitl [HO]
    · iexists _; iexact HO
    · iempintro
  | r :: l, acc, W => by
    unfold takeRows accL
    rw [bigSepL_cons', bigSepL_cons']
    iintro ⟨#HR, #Hlev, HO, ⟨Hc, Hat⟩, Hrest⟩ Hk
    iapply (step_wait A K c 1 r (O₂ c) W _ Q (land_credit r)) $$ [Hc HO Hat]
    · isplitr; · iexact HR
      isplitl [Hc]; · iexact Hc
      isplitl [HO]; · iexact HO
      isplitr; · iapply (mayWait_row r c); iexact Hlev
      iexact Hat
    iintro ⟨⟨%W', HO⟩, Hat, Hl⟩
    ihave Hl' := (Entails.of_eq (show dPay A 1 r c = lPt c (landSet r) (landV A r c) from rfl)) $$ Hl
    iapply (wp_load_rect 𝒱₀ (c : Thread nD τ) none Set.univ (m := rM) (r := landRect r)
      (subset_of_eq ((View.set_slice_whole _ _).trans (landRect_set r)))) $$ Hl'
    iintro Hl
    iapply (run_takeRows K c k Q l (accS r c (A.pos c) (A.val c) acc (gotten A r c)) W') $$ [HO Hrest]
    · isplitr; · iexact HR
      isplitr; · iexact Hlev
      isplitl [HO] <;> iassumption
    iintro ⟨HO, Hcs⟩
    iapply Hk
    isplitl [HO]; · iexact HO
    isplitr [Hcs]
    · isplitl [Hat]; · iexact Hat
      iexact Hl
    iexact Hcs

/-- The chunk stored: the elements hold the result's. -/
theorem run_store (c : Dev nD) (f : Vec F S1024x512 .bf16) {α : Type} (k : P₀ F α) (Q : α → sProp 𝕄) {hl hx hm} :
    oPt c (chunkSet c) fullShare f
      ⊢ iprop((oPt c (chunkSet c) fullShare (outV A) -∗ wp frame (wpE (defs₀ (F := F)) 𝒱₀ (c : Thread nD τ) none) Set.univ k Q)
        -∗ wp frame (wpE (defs₀ (F := F)) 𝒱₀ (c : Thread nD τ) none) Set.univ
          (.op (.load oM (storeRect c).toLoadRect hl) fun _ => .op (.store oM (storeRect c) (chunkV A c) Finset.univ hx hm) fun _ => k) Q) := by
  iintro Ho Hk
  iapply (wp_load_rect 𝒱₀ (c : Thread nD τ) none Set.univ (m := oM) (r := storeRect c) (subset_of_eq (store_set c))) $$ Ho
  iintro Ho
  iapply (wp_store 𝒱₀ (c : Thread nD τ) none Set.univ (m := oM) (r := storeRect c) (Mk := Finset.univ) (subset_of_eq (store_set c))) $$ Ho
  iintro Ho
  iapply Hk
  iapply (Entails.of_eq (pointsTo_congr (store_agrees A c f))) $$ Ho

/-- One exchange's chunk sent. -/
theorem step_sendChunk (K : GSem nD τ sig → ℕ) (c : Dev nD) (r : Fin 7) (n : Dev nD) (hn : n = peer r c) (O : CellTallies nD τ sig Unit)
    (W : Waits sig Unit) {α : Type} (k : PUnit → P₀ F α) (Q : α → sProp 𝕄) {hsrc hdst : (chunkM c).view.WordExact}
    {hsem : DmaTarget.Typed (nD := nD) (τ := τ) .vmem (.dma (uS r)) (.remote (Dev.tc n) (chunkM c) (.dma (tS r)))} :
    iprop(records A K ∗ ownReached c ∗ owes (c : Thread nD τ) (O + oChk c r) W
        ∗ ((dutyTok ER (dCell 2 r c) 0 0 ∗ dutyTok ER (dCell 3 r (peer r c)) 0 0) ∗ reached ER (dCell 3 r (peer r c)) 0
          ∗ oPt c (chunkSet c) (part r) (outV A) ∗ ∃ f, oPt (peer r c) (chunkSet c) fullShare f))
      ⊢ iprop(((cred (tallyAt (dCell 2 r c) () N₂) ∗ owes (c : Thread nD τ) O W)
            -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma (chunkM c) (.remote (Dev.tc n) (chunkM c) (.dma (tS r))) (.dma (uS r)) hsrc hdst hsem) k) Q) := by
  subst hn
  iintro ⟨#HR, #HOwn, HO, ⟨Ht0, Ht1⟩, #Hrc, Hb, %f, Hl⟩
  ihave Hb' := (Entails.of_eq (congrArg (fun S => (((c : Thread nD τ).loc cc0_stg3_0) ↦[S]{part r} outV A : sProp 𝕄)) (chunkM_set c).symm)) $$ Hb
  ihave Hl' := (Entails.of_eq (congrArg (fun S => (((peer r c : Thread nD τ).loc cc0_stg3_0) ↦[S]{fullShare} f : sProp 𝕄)) (chunkM_set c).symm)) $$ Hl
  iapply (Rounds.wp_send_pointsTo 𝒱₀ ER (sched A) (c : Thread nD τ) none (c' := (peer r c : Thread nD τ)) (src := chunkM c) (dst := chunkM c)
      (sS := .dma (tS r)) (sem := .dma (uS r)) (q := part r) (fs := outV A) (κ₁ := K (dCell 2 r c)) (κ₂ := K (dCell 3 r (peer r c)))
      (r₁ := 0) (r₂ := 0) (d₁ := 0) (d₂ := 0) (fd := f)
      ((duties_d A 2 r c).symm ▸ Finset.mem_singleton_self _) ((duties_d A 3 r (peer r c)).symm ▸ Finset.mem_singleton_self _)
      () () N₂ rfl (amount_d A 2 r c 0) (amount_d A 3 r (peer r c) 0) O rfl
      (by
        refine BI.Entails.trans ?_ (Entails.of_eq (payload_d A 2 r c 0).symm)
        exact Entails.of_eq (congrArg (fun S => (((c : Thread nD τ).loc cc0_stg3_0) ↦[S]{part r} outV A : sProp 𝕄)) (chunkM_set c)))
      (by
        refine BI.Entails.trans ?_ (Entails.of_eq (payload_d A 3 r (peer r c) 0).symm)
        refine BI.Entails.trans (Entails.of_eq (congrArg (fun S => (((peer r c : Thread nD τ).loc cc0_stg3_0) ↦[S]{fullShare} _ : sProp 𝕄)) (chunkM_set c))) ?_
        show (_ : sProp 𝕄) ⊢ oPt (peer r c) (chunkSet (peer r (peer r c))) fullShare (outV A)
        rw [peer_peer]
        exact Entails.of_eq (pointsTo_congr (chunk_agrees A c f)))) $$ [Hb' Hl' HO Ht0 Ht1]
  isplitr; · iapply (rec_d A K 2 r c); iexact HR
  isplitr; · iapply (rec_d A K 3 r (peer r c)); iexact HR
  isplitl [Hb']; · iexact Hb'
  isplitl [Hl']; · iexact Hl'
  isplitl [HO]; · iexact HO
  isplitl [Ht0]; · iexact Ht0
  isplitr; · iapply (own_reached 2 r c); iexact HOwn
  isplitl [Ht1]; · iexact Ht1
  iexact Hrc

theorem run_sendChunks (K : GSem nD τ sig → ℕ) (c : Dev nD) (O : CellTallies nD τ sig Unit) (W : Waits sig Unit) {α : Type} (k : P₀ F α)
    (Q : α → sProp 𝕄) : ∀ l : List (Fin 7),
    iprop(records A K ∗ ownReached c ∗ owes (c : Thread nD τ) (owing (oChk c) l + O) W
        ∗ bigSepL l (fun r => iprop((dutyTok ER (dCell 2 r c) 0 0 ∗ dutyTok ER (dCell 3 r (peer r c)) 0 0) ∗ reached ER (dCell 3 r (peer r c)) 0
          ∗ oPt c (chunkSet c) (part r) (outV A) ∗ ∃ f, oPt (peer r c) (chunkSet c) fullShare f)))
      ⊢ iprop((owes (c : Thread nD τ) O W ∗ bigSepL l (fun r => cred (tallyAt (dCell 2 r c) () N₂))
            -∗ wp frame (wpE (defs₀ (F := F)) 𝒱₀ (c : Thread nD τ) none) Set.univ k Q)
        -∗ wp frame (wpE (defs₀ (F := F)) 𝒱₀ (c : Thread nD τ) none) Set.univ (sendChunks c l k) Q)
  | [] => by
    unfold owing sendChunks
    rw [zero_add, bigSepL_nil, bigSepL_nil]
    iintro ⟨-, -, HO, H⟩ Hk
    iapply Hk; isplitl [HO]
    · iexact HO
    · iempintro
  | r :: l => by
    unfold sendChunks
    rw [bigSepL_cons', bigSepL_cons', owing_cons]
    iintro ⟨#HR, #HOwn, HO, Hr, Hrest⟩ Hk
    iapply (step_sendChunk A K c r (outDev r c) (outDev_eq r c) (owing (oChk c) l + O) W) $$ [HO Hr]
    · isplitr; · iexact HR
      isplitr; · iexact HOwn
      isplitl [HO] <;> iassumption
    iintro ⟨Hc, HO⟩
    iapply (run_sendChunks K c O W k Q l) $$ [HO Hrest]
    · isplitr; · iexact HR
      isplitr; · iexact HOwn
      isplitl [HO] <;> iassumption
    iintro ⟨HO, Hcs⟩
    iapply Hk
    isplitl [HO]; · iexact HO
    isplitl [Hc]; · iexact Hc
    iexact Hcs

theorem run_takeChunks (K : GSem nD τ sig → ℕ) (c : Dev nD) {α : Type} (k : P₀ F α)
    (Q : α → sProp 𝕄) : ∀ (l : List (Fin 7)) (W : Waits sig Unit),
    iprop(records A K ∗ owes (c : Thread nD τ) 0 W
        ∗ bigSepL l (fun r => iprop(cred (tallyAt (dCell 3 r c) () N₂) ∗ atPos ER (dCell 3 r c) 0 ∅ 0)))
      ⊢ iprop(((∃ W', owes (c : Thread nD τ) 0 W') ∗ bigSepL l (fun r => iprop(atPos ER (dCell 3 r c) 1 ∅ 0 ∗ oPt c (chunkSet (peer r c)) fullShare (outV A)))
            -∗ wp frame (wpE (defs₀ (F := F)) 𝒱₀ (c : Thread nD τ) none) Set.univ k Q)
        -∗ wp frame (wpE (defs₀ (F := F)) 𝒱₀ (c : Thread nD τ) none) Set.univ (takeChunks c l k) Q)
  | [], W => by
    unfold takeChunks
    rw [bigSepL_nil, bigSepL_nil]
    iintro ⟨-, HO, H⟩ Hk
    iapply Hk; isplitl [HO]
    · iexists _; iexact HO
    · iempintro
  | r :: l, W => by
    unfold takeChunks
    rw [bigSepL_cons', bigSepL_cons']
    iintro ⟨#HR, HO, ⟨Hc, Hat⟩, Hrest⟩ Hk
    iapply (step_wait A K c 3 r 0 W _ Q (chunk_credit c)) $$ [Hc HO Hat]
    · isplitr; · iexact HR
      isplitl [Hc]; · iexact Hc
      isplitl [HO]; · iexact HO
      isplitr; · rw [MayWait_zero]; iempintro
      iexact Hat
    iintro ⟨⟨%W', HO⟩, Hat, Hl⟩
    ihave Hl := (Entails.of_eq (show dPay A 3 r c = oPt c (chunkSet (peer r c)) fullShare (outV A) from rfl)) $$ Hl
    iapply (run_takeChunks K c k Q l W') $$ [HO Hrest]
    · isplitr; · iexact HR
      isplitl [HO] <;> iassumption
    iintro ⟨HO, Hcs⟩
    iapply Hk
    isplitl [HO]; · iexact HO
    isplitr [Hcs]
    · isplitl [Hat]; · iexact Hat
      iexact Hl
    iexact Hcs

theorem run_drain (K : GSem nD τ sig → ℕ) (c : Dev nD) {α : Type} (k : P₀ F α)
    (Q : α → sProp 𝕄) : ∀ (l : List (Fin 7)) (W : Waits sig Unit),
    iprop(records A K ∗ owes (c : Thread nD τ) 0 W
        ∗ bigSepL l (fun r => iprop((cred (tallyAt (dCell 0 r c) () N₁) ∗ cred (tallyAt (dCell 2 r c) () N₂))
          ∗ atPos ER (dCell 0 r c) 0 ∅ 0 ∗ atPos ER (dCell 2 r c) 0 ∅ 0)))
      ⊢ iprop(((∃ W', owes (c : Thread nD τ) 0 W') ∗ bigSepL l (fun r => iprop((atPos ER (dCell 0 r c) 1 ∅ 0 ∗ atPos ER (dCell 2 r c) 1 ∅ 0)
            ∗ bPt c (rowSet (peer r c)) (A.rows c) ∗ oPt c (chunkSet c) (part r) (outV A)))
            -∗ wp frame (wpE (defs₀ (F := F)) 𝒱₀ (c : Thread nD τ) none) Set.univ k Q)
        -∗ wp frame (wpE (defs₀ (F := F)) 𝒱₀ (c : Thread nD τ) none) Set.univ (drain c l k) Q)
  | [], W => by
    unfold drain
    rw [bigSepL_nil, bigSepL_nil]
    iintro ⟨-, HO, H⟩ Hk
    iapply Hk; isplitl [HO]
    · iexists _; iexact HO
    · iempintro
  | r :: l, W => by
    unfold drain
    rw [bigSepL_cons', bigSepL_cons']
    iintro ⟨#HR, HO, ⟨⟨Hc0, Hc2⟩, Hat0, Hat2⟩, Hrest⟩ Hk
    iapply (step_wait A K c 0 r 0 W _ Q (send_credit r c)) $$ [Hc0 HO Hat0]
    · isplitr; · iexact HR
      isplitl [Hc0]; · iexact Hc0
      isplitl [HO]; · iexact HO
      isplitr; · rw [MayWait_zero]; iempintro
      iexact Hat0
    iintro ⟨⟨%W₁, HO⟩, Hat0, Hb⟩
    iapply (step_wait A K c 2 r 0 W₁ _ Q (chunk_credit c)) $$ [Hc2 HO Hat2]
    · isplitr; · iexact HR
      isplitl [Hc2]; · iexact Hc2
      isplitl [HO]; · iexact HO
      isplitr; · rw [MayWait_zero]; iempintro
      iexact Hat2
    iintro ⟨⟨%W', HO⟩, Hat2, Hl⟩
    ihave Hb := (Entails.of_eq (show dPay A 0 r c = bPt c (rowSet (peer r c)) (A.rows c) from rfl)) $$ Hb
    ihave Hl := (Entails.of_eq (show dPay A 2 r c = oPt c (chunkSet c) (part r) (outV A) from rfl)) $$ Hl
    iapply (run_drain K c k Q l W') $$ [HO Hrest]
    · isplitr; · iexact HR
      isplitl [HO] <;> iassumption
    iintro ⟨HO, Hcs⟩
    iapply Hk
    isplitl [HO]; · iexact HO
    isplitr [Hcs]
    · isplitl [Hat0 Hat2]
      · isplitl [Hat0] <;> iassumption
      isplitl [Hb]; · iexact Hb
      iexact Hl
    iexact Hcs

end Cert.Lookup
-- ==== Proof.Body.lean ====
/- The whole body: what it needs when it starts, and what it leaves. -/
module

public import proofs.«01_k».proof.Proof.Steps

@[expose] public section

noncomputable section

namespace Cert.Lookup

open Cert.KernelIdeal Cert.KernelIdeal.Gen Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (A : Input F)

/-! ## Families over the exchanges -/

abbrev all (Φ : Fin 7 → sProp 𝕄) : sProp 𝕄 := bigSep Finset.univ Φ

theorem all_order (Φ : Fin 7 → sProp 𝕄) : all Φ = bigSepL order Φ := bigSep_univ_eq_bigSepL order (by decide) (by decide) Φ
theorem all_signal (Φ : Fin 7 → sProp 𝕄) : all Φ = bigSepL signalOrder Φ := bigSep_univ_eq_bigSepL signalOrder (by decide) (by decide) Φ
theorem all_fin (Φ : Fin 7 → sProp 𝕄) : all Φ = bigSepL (List.finRange 7) Φ := bigSep_univ_eq_bigSepL (List.finRange 7) (by decide) (by decide) Φ
theorem all_sep (Φ Ψ : Fin 7 → sProp 𝕄) : all (fun r => iprop(Φ r ∗ Ψ r)) = iprop(all Φ ∗ all Ψ) := bigSep_sep _ _ _

theorem dev_perm : ∀ c : Dev nD, Finset.univ = (c :: order.map (fun r => peer r c)).toFinset ∧ (c :: order.map (fun r => peer r c)).Nodup := by decide
theorem dev_split (c : Dev nD) (Φ : Dev nD → sProp 𝕄) : bigSep Finset.univ Φ = iprop(Φ c ∗ all fun r => Φ (peer r c)) := by
  rw [bigSep_univ_eq_bigSepL _ (dev_perm c).1 (dev_perm c).2, bigSepL_cons', bigSepL_map, ← all_order]

/-! ## The buffers in parts -/

theorem b_split (c : Dev nD) (f : Vec F S320x512 .bf16) :
    bPt c Finset.univ f = iprop(bPt c (rowSet c) f ∗ all fun r => bPt c (rowSet (peer r c)) f) := by
  unfold bPt
  rw [← rowSet_cover, pointsTo_biUnion _ _ (fun d _ d' _ h => rowSet_disjoint h), dev_split c]

theorem o_split (c : Dev nD) (f : Vec F S1024x512 .bf16) :
    oPt c Finset.univ fullShare f = iprop(oPt c (chunkSet c) fullShare f ∗ all fun r => oPt c (chunkSet (peer r c)) fullShare f) := by
  unfold oPt
  rw [← chunkSet_cover, pointsTo_biUnion _ _ (fun d _ d' _ h => chunkSet_disjoint h), dev_split c]

theorem l_split (c : Dev nD) (f : Vec F S7x40x512 .bf16) :
    lPt c Finset.univ f = all fun r => lPt c (landSet r) f := by
  unfold lPt
  rw [← landSet_cover, pointsTo_biUnion _ _ (fun d _ d' _ h => landSet_disjoint h)]

theorem l_join (c : Dev nD) (fs : Fin 7 → Vec F S7x40x512 .bf16) :
    all (fun r => lPt c (landSet r) (fs r)) ⊢ (iprop(∃ f, lPt c Finset.univ f) : sProp 𝕄) := by
  rw [← landSet_cover]
  iintro H
  ihave H := (pointsTo_biUnion_join (ℓ := (c : Thread nD τ).loc cc0_scratch0) Finset.univ landSet fs (fs 0) (fun d _ d' _ h => landSet_disjoint h)) $$ H
  icases H with ⟨%g, -, H⟩
  iexists g; iexact H

theorem l_any (c : Dev nD) (f : Vec F S7x40x512 .bf16) :
    lPt c Finset.univ f ⊢ (all fun r => iprop(∃ f, lPt c (landSet r) f) : sProp 𝕄) :=
  BI.Entails.trans (Entails.of_eq (l_split c f)) (bigSep_mono fun r _ => exists_intro (Φ := fun f => lPt c (landSet r) f) f)

theorem o_any (c : Dev nD) (f : Vec F S1024x512 .bf16) :
    (all fun r => oPt c (chunkSet (peer r c)) fullShare f) ⊢ (all fun r => iprop(∃ f, oPt c (chunkSet (peer r c)) fullShare f) : sProp 𝕄) :=
  bigSep_mono fun r _ => exists_intro (Φ := fun f => oPt c (chunkSet (peer r c)) fullShare f) f

theorem share_split (c : Dev nD) (f : Vec F S1024x512 .bf16) :
    oPt c (chunkSet c) fullShare f ⊣⊢ all fun r => oPt c (chunkSet c) (part r) f := by
  rw [all_fin]
  exact Ring.pointsTo_nths _ 6 fullShare

/-! ## Loads of whole buffers -/

abbrev pPt (c : Dev nD) (f : Vec F S8x40 .i32) : sProp 𝕄 := ((c : Thread nD τ).loc cc0_stg1_0) ↦{fullShare} f
abbrev vPt (c : Dev nD) (f : Vec F S8x40 .bf16) : sProp 𝕄 := ((c : Thread nD τ).loc cc0_stg2_0) ↦{fullShare} f

theorem run_loadPos (c : Dev nD) (f : Vec F S8x40 .i32) {α : Type} (k : Vec F S8x40 .i32 → P₀ F α) (Q : α → sProp 𝕄) {hl} :
    pPt c f ⊢ iprop((pPt c f -∗ wp frame (wpE (defs₀ (F := F)) 𝒱₀ (c : Thread nD τ) none) Set.univ (k f) Q)
      -∗ wp frame (wpE (defs₀ (F := F)) 𝒱₀ (c : Thread nD τ) none) Set.univ (.op (.load pM rect0.toLoadRect hl) k) Q) := by
  iintro H Hk
  iapply (wp_load_rect 𝒱₀ (c : Thread nD τ) none Set.univ (m := pM) (r := rect0) (Finset.subset_univ _)) $$ H
  iintro H
  rw [show View.read (Elt F) (pM.access rect0) f = f from Memref.readAt_unit_zero (Elt F) cc0_stg1_0 (by funext a; fin_cases a <;> rfl) _ f]
  iapply Hk; iexact H

theorem run_loadVal (c : Dev nD) (f : Vec F S8x40 .bf16) {α : Type} (k : Vec F S8x40 .bf16 → P₀ F α) (Q : α → sProp 𝕄) {hl} :
    vPt c f ⊢ iprop((vPt c f -∗ wp frame (wpE (defs₀ (F := F)) 𝒱₀ (c : Thread nD τ) none) Set.univ (k f) Q)
      -∗ wp frame (wpE (defs₀ (F := F)) 𝒱₀ (c : Thread nD τ) none) Set.univ (.op (.load vM rect0.toLoadRect hl) k) Q) := by
  iintro H Hk
  iapply (wp_load_rect 𝒱₀ (c : Thread nD τ) none Set.univ (m := vM) (r := rect0) (Finset.subset_univ _)) $$ H
  iintro H
  rw [show View.read (Elt F) (vM.access rect0) f = f from Memref.readAt_unit_zero (Elt F) cc0_stg2_0 (by funext a; fin_cases a <;> rfl) _ f]
  iapply Hk; iexact H

theorem run_loadOwn (c : Dev nD) {α : Type} (k : Vec F S40x512 .bf16 → P₀ F α) (Q : α → sProp 𝕄) {hl} :
    bPt c (rowSet c) (A.rows c) ⊢ iprop((bPt c (rowSet c) (A.rows c) -∗ wp frame (wpE (defs₀ (F := F)) 𝒱₀ (c : Thread nD τ) none) Set.univ (k (kept A c)) Q)
      -∗ wp frame (wpE (defs₀ (F := F)) 𝒱₀ (c : Thread nD τ) none) Set.univ (.op (.load bM (ownRect c).toLoadRect hl) k) Q) := by
  iintro H Hk
  iapply (wp_load_rect 𝒱₀ (c : Thread nD τ) none Set.univ (m := bM) (r := ownRect c)
    (subset_of_eq ((View.set_slice_whole _ _).trans (own_set c)))) $$ H
  iintro H
  iapply Hk; iexact H

/-! ## The semaphores handed back -/

theorem close_d (K : GSem nD τ sig → ℕ) (k : Fin 4) (r : Fin 7) (c : Dev nD) :
    iprop(records A K ∗ atPos ER (dCell k r c) 1 ∅ 0) ⊢ iprop(|={Set.univ}=> semVal (dCell k r c) 0 : sProp 𝕄) := by
  iintro ⟨#HR, Hat⟩
  iapply (Rounds.cell_close ER (sched A) (Set.mem_univ (K (dCell k r c))) id (R := 1) (duties_later A (dCell k r c)))
  isplitr; · iapply (rec_d A K k r c); iexact HR
  iexact Hat

theorem close_all (K : GSem nD τ sig → ℕ) (k : Fin 4) (c : Dev nD) :
    iprop(records A K ∗ all fun r => atPos ER (dCell k r c) 1 ∅ 0) ⊢ iprop(|={Set.univ}=> all fun r => semVal (dCell k r c) 0 : sProp 𝕄) := by
  rw [all_order, all_order]
  have h : ∀ l : List (Fin 7), iprop(records A K ∗ bigSepL l fun r => atPos ER (dCell k r c) 1 ∅ 0)
      ⊢ iprop(|={Set.univ}=> bigSepL l fun r => semVal (dCell k r c) 0 : sProp 𝕄) := by
    intro l
    induction l with
    | nil => rw [bigSepL_nil, bigSepL_nil]; iintro -; imodintro; iempintro
    | cons r l ih =>
      rw [bigSepL_cons', bigSepL_cons']
      iintro ⟨#HR, Hr, Hl⟩
      imod (close_d A K k r c) $$ [Hr] with Hr
      · isplitr; · iexact HR
        iexact Hr
      imod ih $$ [Hl] with Hl
      · isplitr; · iexact HR
        iexact Hl
      imodintro
      isplitl [Hr]; · iexact Hr
      iexact Hl
  exact h order

theorem close_bar (K : GSem nD τ sig → ℕ) (c : Dev nD) :
    iprop(records A K ∗ atPos ER (barCell c) 1 ∅ 0) ⊢ iprop(|={Set.univ}=> semVal (barCell c) 0 : sProp 𝕄) := by
  iintro ⟨#HR, Hat⟩
  iapply (Rounds.cell_close ER (sched A) (Set.mem_univ (K (barCell c))) id (R := 1) (duties_later A (barCell c)))
  isplitr; · iapply (rec_bar A K c); iexact HR
  iexact Hat

/-! ## The body -/

/-- The tokens a device spends: its signals, its transfers' two ends, and its places. -/
def spends (c : Dev nD) : sProp 𝕄 :=
  iprop((all fun r => dutyTok ER (barCell (peer r c)) 0 r)
    ∗ (all fun r => dutyTok ER (dCell 0 r c) 0 0) ∗ (all fun r => dutyTok ER (dCell 1 r (peer r c)) 0 0)
    ∗ (all fun r => dutyTok ER (dCell 2 r c) 0 0) ∗ (all fun r => dutyTok ER (dCell 3 r (peer r c)) 0 0))
/-- A device's places at its semaphores. -/
def places (c : Dev nD) : sProp 𝕄 :=
  iprop(atPos ER (barCell c) 0 ∅ 0
    ∗ (all fun r => atPos ER (dCell 0 r c) 0 ∅ 0) ∗ (all fun r => atPos ER (dCell 1 r c) 0 ∅ 0)
    ∗ (all fun r => atPos ER (dCell 2 r c) 0 ∅ 0) ∗ (all fun r => atPos ER (dCell 3 r c) 0 ∅ 0))
/-- What a device may wait for. -/
def awaits (c : Dev nD) : sProp 𝕄 :=
  iprop(cred (tallyAt (barCell c) () 7) ∗ (all fun r => cred (tallyAt (dCell 1 r c) () N₁)) ∗ (all fun r => cred (tallyAt (dCell 3 r c) () N₂)))
/-- The device's own semaphores at zero. -/
def zeros (c : Dev nD) : sProp 𝕄 :=
  iprop((all fun r => semVal (dCell 0 r c) 0) ∗ (all fun r => semVal (dCell 1 r c) 0)
    ∗ (all fun r => semVal (dCell 2 r c) 0) ∗ (all fun r => semVal (dCell 3 r c) 0))

/-- The buffers before and after. -/
def bufs (c : Dev nD) (f : Vec F S1024x512 .bf16) : sProp 𝕄 :=
  iprop(bPt c Finset.univ (A.rows c) ∗ pPt c (A.pos c) ∗ vPt c (A.val c) ∗ oPt c Finset.univ fullShare f ∗ ∃ l, lPt c Finset.univ l)

theorem run_barrier (K : GSem nD τ sig → ℕ) (c : Dev nD) (W : Waits sig Unit) {α : Type} (k : PUnit → P₀ F α) (Q : α → sProp 𝕄) :
    iprop(records A K ∗ levAts L lv ∗ cred (tallyAt (barCell c) () 7) ∗ owes (c : Thread nD τ) (O₁ c) W ∗ atPos ER (barCell c) 0 ∅ 0)
      ⊢ iprop(((∃ W', owes (c : Thread nD τ) (O₁ c) W') ∗ atPos ER (barCell c) 1 ∅ 0 ∗ (all fun r => barPay c r)
            -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS (7#32).toInt) k) Q) := by
  iintro ⟨#HR, #Hlev, Hc, HO, Hat⟩ Hk
  iapply (Rounds.wp_wait_rest_token 𝒱₀ ER (sched A) (c : Thread nD τ) none (κ := K (barCell c))
      (wpE_semWait_eq 𝒱₀ (c : Thread nD τ) none Set.univ) (Set.mem_univ _) () (O := O₁ c) (W := W) (R := 0) (m := 0) (T := ∅)
      ((Nat.zero_add 7).trans (expect_bar A c).symm)) $$ [Hc HO Hat]
  · isplitr; · iapply (rec_bar A K c); iexact HR
    isplitl [Hc]; · iexact Hc
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  rw [all_order]
  iapply (Entails.of_eq (rest_bar A c)); iexact Hpay

/-- The body, from every device's share of the launch to every buffer and semaphore handed back. -/
theorem body_wp (K : GSem nD τ sig → ℕ) (c : Dev nD) (W : Waits sig Unit) (f : Vec F S1024x512 .bf16) :
    iprop(records A K ∗ ownReached c ∗ levAts L lv ∗ owes (c : Thread nD τ) (O₀ c) W ∗ places c ∗ spends c ∗ awaits c ∗ bufs A c f)
      ⊢ wp frame (wpE (defs₀ (F := F)) 𝒱₀ (c : Thread nD τ) none) Set.univ (body (F := F))
        (fun _ => iprop((∃ W', owes (c : Thread nD τ) 0 W') ∗ semVal (barCell c) 0 ∗ zeros c ∗ bufs A c (outV A))) := by
  have hS := fun O W (k : P₀ F PUnit) Q => run_signals A K c O W k Q signalOrder
  have hR := fun O W (k : P₀ F PUnit) Q => run_sendRows A K c O W k Q order
  have hT := fun acc W (k : FVec F S128x512 .f32 → P₀ F PUnit) Q => run_takeRows A K c k Q order acc W
  have hC := fun O W (k : P₀ F PUnit) Q => run_sendChunks A K c O W k Q order
  have hU := fun W (k : P₀ F PUnit) Q => run_takeChunks A K c k Q order W
  have hD := fun W (k : P₀ F PUnit) Q => run_drain A K c k Q order W
  have hB := fun W (k : PUnit → P₀ F PUnit) Q => run_barrier A K c W k Q
  unfold barPay at hB
  simp only [← all_order, ← all_signal, all_sep] at hS hR hT hC hU hD hB
  unfold body places spends awaits bufs
  rw [wp_deviceId]
  iintro ⟨#HR, #HOwn, #Hlev, HO, ⟨HatB, Hat0, Hat1, Hat2, Hat3⟩, ⟨HtB, Ht0, Ht1, Ht2, Ht3⟩, ⟨HcB, Hc1, Hc3⟩, HB, HP, HV, Hout, %l, HL⟩
  ihave HB := (Entails.of_eq (b_split c (A.rows c))) $$ HB
  icases HB with ⟨Hb, Hbs⟩
  ihave Hout := (Entails.of_eq (o_split c f)) $$ Hout
  icases Hout with ⟨Ho, Hos⟩
  -- the signals
  unfold O₀
  iapply (hS (O₁ c) W) $$ [HO HtB HL Hos]
  · isplitr; · iexact HR
    isplitr; · iexact HOwn
    isplitl [HO]; · iexact HO
    isplitl [HtB]; · iexact HtB
    isplitl [HL]
    · iapply (l_any c l); iexact HL
    · iapply (o_any c f); iexact Hos
  iintro HO
  iapply (hB W) $$ [HcB HO HatB]
  · isplitr; · iexact HR
    isplitr; · iexact Hlev
    isplitl [HcB]; · iexact HcB
    isplitl [HO]; · iexact HO
    iexact HatB
  iintro ⟨⟨%W₁, HO⟩, HatB, Hpay⟩
  icases Hpay with ⟨HL, Hos, Hr1, Hr3⟩
  -- the rows sent
  unfold O₁
  iapply (hR (O₂ c) W₁) $$ [HO Ht0 Ht1 Hr1 Hbs HL]
  · isplitr; · iexact HR
    isplitr; · iexact HOwn
    isplitl [HO]; · iexact HO
    isplitl [Ht0 Ht1]
    · isplitl [Ht0] <;> iassumption
    isplitl [Hr1]; · iexact Hr1
    isplitl [Hbs]; · iexact Hbs
    iexact HL
  iintro ⟨HO, Hc0⟩
  iapply (run_loadPos c (A.pos c)) $$ HP
  iintro HP
  iapply (run_loadVal c (A.val c)) $$ HV
  iintro HV
  iapply (run_loadOwn A c) $$ Hb
  iintro Hb
  -- the rows taken
  iapply (hT _ W₁) $$ [HO Hc1 Hat1]
  · isplitr; · iexact HR
    isplitr; · iexact Hlev
    isplitl [HO]; · iexact HO
    isplitl [Hc1] <;> iassumption
  iintro ⟨⟨%W₂, HO⟩, Hat1, HL⟩
  iapply (run_store A c f) $$ Ho
  iintro Ho
  ihave Hsh := (share_split c (outV A)).1 $$ Ho
  -- the chunk sent
  rw [show O₂ c = owing (oChk c) order + 0 from (add_zero _).symm]
  iapply (hC 0 W₂) $$ [HO Ht2 Ht3 Hr3 Hsh Hos]
  · isplitr; · iexact HR
    isplitr; · iexact HOwn
    isplitl [HO]; · iexact HO
    isplitl [Ht2 Ht3]
    · isplitl [Ht2] <;> iassumption
    isplitl [Hr3]; · iexact Hr3
    isplitl [Hsh]; · iexact Hsh
    iexact Hos
  iintro ⟨HO, Hc2⟩
  iapply (hU W₂) $$ [HO Hc3 Hat3]
  · isplitr; · iexact HR
    isplitl [HO]; · iexact HO
    isplitl [Hc3] <;> iassumption
  iintro ⟨⟨%W₃, HO⟩, Hat3, Hos⟩
  iapply (hD W₃) $$ [HO Hc0 Hc2 Hat0 Hat2]
  · isplitr; · iexact HR
    isplitl [HO]; · iexact HO
    isplitl [Hc0 Hc2]
    · isplitl [Hc0] <;> iassumption
    isplitl [Hat0] <;> iassumption
  iintro ⟨HO, ⟨Hat0, Hat2⟩, Hbs, Hsh⟩
  ihave Ho := (share_split c (outV A)).2 $$ Hsh
  -- the semaphores handed back
  imod (close_bar A K c) $$ [HatB] with HzB
  · isplitr; · iexact HR
    iexact HatB
  imod (close_all A K 0 c) $$ [Hat0] with Hz0
  · isplitr; · iexact HR
    iexact Hat0
  imod (close_all A K 1 c) $$ [Hat1] with Hz1
  · isplitr; · iexact HR
    iexact Hat1
  imod (close_all A K 2 c) $$ [Hat2] with Hz2
  · isplitr; · iexact HR
    iexact Hat2
  imod (close_all A K 3 c) $$ [Hat3] with Hz3
  · isplitr; · iexact HR
    iexact Hat3
  rw [wp_ret]
  imodintro
  isplitl [HO]; · iexact HO
  isplitl [HzB]; · iexact HzB
  isplitl [Hz0 Hz1 Hz2 Hz3]
  · unfold zeros
    isplitl [Hz0]; · iexact Hz0
    isplitl [Hz1]; · iexact Hz1
    isplitl [Hz2]; · iexact Hz2
    iexact Hz3
  isplitl [Hb Hbs]
  · iapply (Entails.of_eq (b_split c (A.rows c)).symm)
    isplitl [Hb] <;> iassumption
  isplitl [HP]; · iexact HP
  isplitl [HV]; · iexact HV
  isplitl [Ho Hos]
  · iapply (Entails.of_eq (o_split c (outV A)).symm)
    isplitl [Ho] <;> iassumption
  iapply (l_join c (landV A · c)); iexact HL

end Cert.Lookup
-- ==== Proof.Region.lean ====
/- The launch of the body as one region of the program. -/
module

public import proofs.«01_k».proof.Proof.Body
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.Value

@[expose] public section

noncomputable section

namespace Cert.Lookup

open Cert.KernelIdeal Cert.KernelIdeal.Gen Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Valuation τ sig (Elt F))

/-- What the body is launched on: the three operands as the host left them. -/
def inp : Input F where
  rows c := V c main_v85
  pos c := V c main_v86
  val c := V c main_v88

/-! ## The region's data -/

/-- What the launch gives a device for the body, before its own semaphores are opened. -/
def rides (c : Dev nD) : sProp 𝕄 :=
  iprop((∃ K, records (inp V) K ∗ atPos ER (barCell c) 0 ∅ 0 ∗ (bigSep Finset.univ fun kr : Fin 4 × Fin 7 => openTok ER (dCell kr.1 kr.2 c)) ∗ spends c) ∗ awaits c)
/-- The same once they are. -/
def opened (c : Dev nD) : sProp 𝕄 :=
  iprop((∃ K, records (inp V) K ∗ places c ∗ spends c) ∗ ownReached c ∗ awaits c ∗ levAts L lv)

abbrev landing (c : Dev nD) : sProp 𝕄 := iprop(∃ f : Buf (Elt F) ((c : Thread nD τ).loc cc0_scratch0), ((c : Thread nD τ).loc cc0_scratch0) ↦{fullShare} f)

/-- What the body is run with besides its buffers, and what it leaves. -/
def enters (c : Dev nD) : sProp 𝕄 := iprop(opened V c ∗ landing c ∗ ∃ r, prngReg c r)
def leaves (c : Dev nD) : sProp 𝕄 := iprop(semVal (barCell c) 0 ∗ zeros c ∗ landing c ∗ ∃ r, prngReg c r)

def dat (c : Dev nD) : Pipeline.Dat τ (Elt F) Unit ℕ UU ℕ cfg0 c where
  A w := V c (Proc.devRef .tc (Pipeline.arrRef spec0 w))
  after w _ := match w with
    | ⟨0, _⟩ => (inp V).rows c
    | ⟨1, _⟩ => (inp V).pos c
    | ⟨2, _⟩ => (inp V).val c
    | ⟨3, _⟩ => outV (inp V)
  Φ t := if t.val = 0 then enters V c else leaves c
  q _ := fullShare
  owed t := if t.val = 0 then O₀ c else 0

def pdats : (p : Fin 1) → (c : Dev nD) → Pipeline.Dat τ (Elt F) Unit ℕ UU ℕ (Pipeline.pin (pcfgs (F := F)) adm p) c
  | 0 => dat V

theorem owed_zero (c : Dev nD) : (pdats V 0 c).owed 0 = O₀ c := by
  show (if ((0 : Fin (cfg0.N + 1)).val = 0) then O₀ c else 0) = O₀ c; exact if_pos rfl
theorem owed_first (c : Dev nD) : (dat V c).owed t0_0.castSucc = O₀ c := by
  show (if (t0_0.castSucc : Fin (cfg0.N + 1)).val = 0 then O₀ c else 0) = O₀ c; exact if_pos rfl
theorem owed_last (c : Dev nD) : (pdats V 0 c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig Unit) (h0 : (dat V c).owed t = O) (W : Waits sig Unit) :
    (owes (c : Thread nD τ) O W : sProp 𝕄) ⊢ ((dat V c).owesAt () t : sProp 𝕄) := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig Unit) (h0 : (dat V c).owed t = O) :
    ((dat V c).owesAt () t : sProp 𝕄) ⊢ iprop(∃ W, owes (c : Thread nD τ) O W) := by
  unfold Dat.owesAt Pipeline.owesWithin; rw [h0]
  iintro ⟨%W, -, HO⟩; iexists W; iexact HO

/-! ## The windows -/

/-- A whole array fetched into a staging buffer is the array. -/
theorem fetched_whole {w : Fin cfg0.W} (c : Dev nD) (d : (cfg0.win w).block.Idx → Elt F (cfg0.win w).elt)
    (X : (cfg0.win w).block.Idx → Elt F (cfg0.win w).elt) (hm : ∀ j, (cfg0.win w).moved (cfg0.grid.coords t0_0) j = true)
    (h : ∀ x j, (∀ a, (x a).val = (j a).val) → (dat V c).blockOf w t0_0 x = X j) : (dat V c).fetched w t0_0 d = X := by
  funext j
  unfold Dat.fetched Window.fill
  rw [dif_pos (hm j)]
  exact h _ _ fun a => rfl

theorem before_0 (c : Dev nD) (d) : (dat V c).before 0 t0_0 d = (inp V).rows c := by
  unfold Pipeline.Dat.before; rw [if_pos (fetch0_0 _)]
  refine fetched_whole V c d _ (fun j => ((cfg0.win 0).moved_iff _ j).mpr fun a => (j a).isLt) fun x j hx => ?_
  show V c main_v85 _ = V c main_v85 _
  congr 1; funext a; apply Fin.ext; rw [← hx]; exact (Nat.zero_add _).trans (Nat.one_mul _) |> (congrArg (· + _) (Nat.zero_mul _)).trans
theorem before_1 (c : Dev nD) (d) : (dat V c).before 1 t0_0 d = (inp V).pos c := by
  unfold Pipeline.Dat.before; rw [if_pos (fetch0_1 _)]
  refine fetched_whole V c d _ (fun j => ((cfg0.win 1).moved_iff _ j).mpr fun a => (j a).isLt) fun x j hx => ?_
  show V c main_v86 _ = V c main_v86 _
  congr 1; funext a; apply Fin.ext; rw [← hx]; exact (Nat.zero_add _).trans (Nat.one_mul _) |> (congrArg (· + _) (Nat.zero_mul _)).trans
theorem before_2 (c : Dev nD) (d) : (dat V c).before 2 t0_0 d = (inp V).val c := by
  unfold Pipeline.Dat.before; rw [if_pos (fetch0_2 _)]
  refine fetched_whole V c d _ (fun j => ((cfg0.win 2).moved_iff _ j).mpr fun a => (j a).isLt) fun x j hx => ?_
  show V c main_v88 _ = V c main_v88 _
  congr 1; funext a; apply Fin.ext; rw [← hx]; exact (Nat.zero_add _).trans (Nat.one_mul _) |> (congrArg (· + _) (Nat.zero_mul _)).trans

theorem arrAt_0 (c : Dev nD) (n : ℕ) : (dat V c).arrAt 0 n = V c main_v85 := (dat V c).arrAt_in 0 rfl n
theorem arrAt_1 (c : Dev nD) (n : ℕ) : (dat V c).arrAt 1 n = V c main_v86 := (dat V c).arrAt_in 1 rfl n
theorem arrAt_2 (c : Dev nD) (n : ℕ) : (dat V c).arrAt 2 n = V c main_v88 := (dat V c).arrAt_in 2 rfl n
theorem arrAt_3 (c : Dev nD) : (dat V c).arrAt 3 cfg0.N = outV (inp V) := by
  refine (dat V c).arrAt_eq_of_cover 3 _ (fun t _ => ?_) fun i => ⟨t0_0, flush0_3 _, ?_⟩
  · obtain rfl := fin_N0 t
    funext j
    show outV (inp V) _ = outV (inp V) _
    congr 1; funext a; apply Fin.ext
    show (j a).val = 0 * (cfg0.win 3).size a + 1 * (j a).val
    omega
  · show i ∈ ((View.whole main_v89).slice (win0_3.rect t0_0)).set
    rw [View.set_slice_whole, Rect.mem_set_unit]
    exact fun a => ⟨(Nat.zero_mul _).trans_le (Nat.zero_le _), (i a).isLt.trans_eq ((congrArg (· + _) (Nat.zero_mul _)).trans (Nat.zero_add _)).symm⟩

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body at the pipeline's point -/

theorem body_run (K : GSem nD τ sig → ℕ) (c : Dev nD) (W : Waits sig Unit) (f : Vec F S1024x512 .bf16) (Q : PUnit → sProp 𝕄) :
    iprop(records (inp V) K ∗ ownReached c ∗ levAts L lv ∗ owes (c : Thread nD τ) (O₀ c) W ∗ places c ∗ spends c ∗ awaits c ∗ bufs (inp V) c f)
      ⊢ iprop((((∃ W', owes (c : Thread nD τ) 0 W') ∗ semVal (barCell c) 0 ∗ zeros c ∗ bufs (inp V) c (outV (inp V))) -∗ Q ⟨⟩)
        -∗ wp frame (wpE (defs₀ (F := F)) 𝒱₀ (c : Thread nD τ) none) Set.univ body Q) := by
  refine (body_wp (inp V) K c W f).trans ?_
  iintro H Hk
  iapply (wp_wand_r frame (wpE (defs₀ (F := F)) 𝒱₀ (c : Thread nD τ) none) Set.univ)
  isplitl [H]; · iexact H
  iintro %a H
  iapply Hk; iexact H

theorem phi_first (c : Dev nD) : (dat V c).Φ t0_0.castSucc = enters V c := by
  show (if (t0_0.castSucc : Fin (cfg0.N + 1)).val = 0 then enters V c else leaves c) = _
  exact if_pos rfl
theorem phi_zero (c : Dev nD) : (pdats V 0 c).Φ 0 = enters V c := by
  show (if (0 : Fin (cfg0.N + 1)).val = 0 then enters V c else leaves c) = _
  exact if_pos rfl
theorem phi_next (c : Dev nD) : (dat V c).Φ t0_0.succ = leaves c := by
  show (if (t0_0.succ : Fin (cfg0.N + 1)).val = 0 then enters V c else leaves c) = _
  exact if_neg (Nat.succ_ne_zero _)
theorem phi_last (c : Dev nD) : (pdats V 0 c).Φ (Fin.last _) = leaves c := by
  show (if (Fin.last cfg0.N).val = 0 then enters V c else leaves c) = _
  rw [Fin.val_last, if_neg (by rw [show cfg0.N = 1 from N_0]; decide)]
theorem owed_next (c : Dev nD) : (dat V c).owed t0_0.succ = 0 := by
  show (if (t0_0.succ : Fin (cfg0.N + 1)).val = 0 then O₀ c else 0) = 0
  exact if_neg (Nat.succ_ne_zero _)

theorem body_obligation (c : Dev nD) : BodyObligation (dat V c) (defs₀ (F := F)) 𝒱₀ () Set.univ := fun t => by
  obtain rfl := fin_N0 t
  rw [bigSep_W0, bigSep_W0]
  simp only [owns_whole_eq]
  rw [phi_first, phi_next]
  rw [show defs₀ (F := F) Proc.tc 0 (t0_0, cfg0.slots t0_0) = body from body_eq]
  unfold enters leaves opened
  iintro ⟨⟨⟨⟨%K, #HR, Hpl, Hsp⟩, #Hown, Haw, #Hlev⟩, Hland, Hreg⟩, HO, ⟨%d0, %f0, %hf0, H0⟩, ⟨%d1, %f1, %hf1, H1⟩, ⟨%d2, %f2, %hf2, H2⟩, ⟨%d3, %f3, -, H3⟩⟩
  rw [before_0] at hf0
  rw [before_1] at hf1
  rw [before_2] at hf2
  subst hf0 hf1 hf2
  ihave HO' := (owesAt_elim V c _ (O₀ c) (owed_first V c)) $$ HO
  icases HO' with ⟨%W, HO⟩
  iapply (body_run V K c W f3) $$ [Hpl Hsp Haw Hland HO H0 H1 H2 H3]
  · isplitr; · iexact HR
    isplitr; · iexact Hown
    isplitr; · iexact Hlev
    isplitl [HO]; · iexact HO
    isplitl [Hpl]; · iexact Hpl
    isplitl [Hsp]; · iexact Hsp
    isplitl [Haw]; · iexact Haw
    unfold bufs
    isplitl [H0]; · iexact H0
    isplitl [H1]; · iexact H1
    isplitl [H2]; · iexact H2
    isplitl [H3]; · iexact H3
    iexact Hland
  unfold bufs
  iintro ⟨⟨%W', HO⟩, Hbar, Hz, H0, H1, H2, H3, Hland⟩
  isplitl [Hbar Hz Hland Hreg]
  · isplitl [Hbar]; · iexact Hbar
    isplitl [Hz]; · iexact Hz
    isplitl [Hland]; · iexact Hland
    iexact Hreg
  isplitl [HO]; · iapply (owesAt_intro V c _ 0 (owed_next V c)); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  iexists _; isplitr; swap; (· iexact H3); ipureintro; rfl

/-! ## Opening the device's own semaphores -/

theorem open_one (K : GSem nD τ sig → ℕ) (c : Dev nD) (kr : Fin 4 × Fin 7) :
    iprop(openTok ER (dCell kr.1 kr.2 c) ∗ semVal (dCell kr.1 kr.2 c) 0)
      ⊢ iprop(records (inp V) K -∗ |={Set.univ}=> (atPos ER (dCell kr.1 kr.2 c) 0 ∅ 0 ∗ reached ER (dCell kr.1 kr.2 c) 0 : sProp 𝕄)) := by
  iintro ⟨Ho, Hv⟩ #HR
  iapply (Rounds.cell_open ER (sched (inp V)) (Set.mem_univ (K (dCell kr.1 kr.2 c))))
  isplitr; · iapply (rec_d (inp V) K kr.1 kr.2 c); iexact HR
  isplitl [Ho] <;> iassumption

theorem open_all (K : GSem nD τ sig → ℕ) (c : Dev nD) (l : List (Fin 4 × Fin 7)) :
    iprop(records (inp V) K ∗ (bigSepL l fun kr => openTok ER (dCell kr.1 kr.2 c)) ∗ bigSepL l fun kr => semVal (dCell kr.1 kr.2 c) 0)
      ⊢ iprop(|={Set.univ}=> ((bigSepL l fun kr => atPos ER (dCell kr.1 kr.2 c) 0 ∅ 0) ∗ (bigSepL l fun kr => reached ER (dCell kr.1 kr.2 c) 0) : sProp 𝕄)) := by
  induction l with
  | nil => rw [bigSepL_nil, bigSepL_nil, bigSepL_nil, bigSepL_nil]; iintro -; imodintro; isplitr <;> iempintro
  | cons kr l ih =>
    rw [bigSepL_cons', bigSepL_cons', bigSepL_cons', bigSepL_cons']
    iintro ⟨#HR, ⟨Ho, Hos⟩, Hv, Hvs⟩
    imod (open_one V K c kr) $$ [Ho Hv] [] with ⟨Hat, Hr⟩
    · isplitl [Ho] <;> iassumption
    · iexact HR
    imod ih $$ [Hos Hvs] with ⟨Hats, Hrs⟩
    · isplitr; · iexact HR
      isplitl [Hos] <;> iassumption
    imodintro
    isplitl [Hat Hats]; · isplitl [Hat] <;> iassumption
    isplitl [Hr] <;> iassumption

/-- The twenty-eight, in some order. -/
theorem all_own (Φ : Fin 4 × Fin 7 → sProp 𝕄) : (bigSep Finset.univ Φ) = bigSepL (Finset.univ.toList) Φ :=
  bigSep_univ_eq_bigSepL _ (by rw [Finset.toList_toFinset]) (Finset.nodup_toList _) Φ

theorem by_kind (Φ : Fin 4 × Fin 7 → sProp 𝕄) : (bigSep Finset.univ Φ)
    = iprop((all fun r => Φ (0, r)) ∗ (all fun r => Φ (1, r)) ∗ (all fun r => Φ (2, r)) ∗ (all fun r => Φ (3, r))) := by
  rw [bigSep_univ_prod, bigSep_univ_eq_bigSepL [0, 1, 2, 3] (by decide) (by decide)]
  simp only [bigSepL_cons', bigSepL_nil]
  exact congrArg (fun X : sProp 𝕄 => iprop((all fun r => Φ (0, r)) ∗ (all fun r => Φ (1, r)) ∗ (all fun r => Φ (2, r)) ∗ X)) (equiv_iff.mp sep_emp)

theorem hopen (c : Dev nD) : iprop(rides V c ∗ Pipeline.ownSems0 osem c ∗ levAts L lv) ⊢ (|={Set.univ}=> opened V c : sProp 𝕄) := by
  have h (K : GSem nD τ sig → ℕ) := open_all V K c Finset.univ.toList
  simp only [← all_own] at h
  unfold rides opened Pipeline.ownSems0 places ownReached
  rw [show (iprop((all fun r => atPos ER (dCell 0 r c) 0 ∅ 0) ∗ (all fun r => atPos ER (dCell 1 r c) 0 ∅ 0)
    ∗ (all fun r => atPos ER (dCell 2 r c) 0 ∅ 0) ∗ (all fun r => atPos ER (dCell 3 r c) 0 ∅ 0)) : sProp 𝕄)
    = bigSep Finset.univ fun kr : Fin 4 × Fin 7 => atPos ER (dCell kr.1 kr.2 c) 0 ∅ 0 from
    (by_kind fun kr : Fin 4 × Fin 7 => atPos ER (dCell kr.1 kr.2 c) 0 ∅ 0).symm]
  iintro ⟨⟨⟨%K, #HR, Hbar, Ho, Hsp⟩, Haw⟩, Hv, #Hlev⟩
  imod (h K) $$ [Ho Hv] with ⟨Hat, Hr⟩
  · isplitr; · iexact HR
    isplitl [Ho]; · iexact Ho
    iexact Hv
  imodintro
  isplitl [Hbar Hat Hsp]
  · iexists K; isplitr; · iexact HR
    isplitl [Hbar Hat]; · isplitl [Hbar] <;> iassumption
    iexact Hsp
  isplitl [Hr]; · iexact Hr
  isplitl [Haw]; · iexact Haw
  iexact Hlev

theorem hin (c : Dev nD) : iprop(Pipeline.scopedRest (Pipeline.pin (pcfgs (F := F)) adm 0).spec c ∗ (∃ r, prngReg c r)
      ∗ StableHlo.held (c.tc : Thread nD τ) (∅ : Finset (DevRef τ sig)) (V c) ∗ opened V c) ⊢ (pdats V 0 c).Φ 0 := by
  rw [phi_zero, show Pipeline.scopedRest (Pipeline.pin (pcfgs (F := F)) adm 0).spec c = landing c from scopedRest0_eq c]
  unfold enters
  iintro ⟨Hs, Hr, -, HX⟩
  isplitl [HX]; · iexact HX
  isplitl [Hs] <;> iassumption

theorem hout (W' : Valuation τ sig (Elt F)) (c : Dev nD) : (pdats V 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) (∅ : Finset (DevRef τ sig)) W' ∗ Pipeline.ownSems0 osem c ∗ semVal (barCell c) 0) := by
  rw [show (pdats V 0 c).Φ (Fin.last (Pipeline.pin (pcfgs (F := F)) adm 0).N) = _ from phi_last V c,
    show Pipeline.scopedRest (Pipeline.pin (pcfgs (F := F)) adm 0).spec c = landing c from scopedRest0_eq c]
  rw [show (Pipeline.ownSems0 osem c : sProp 𝕄) = zeros c from by unfold Pipeline.ownSems0; exact by_kind _]
  unfold leaves
  iintro ⟨Hb, Hz, Hs, Hr⟩
  isplitl [Hs]; · iexact Hs
  isplitl [Hr]; · iexact Hr
  isplitr; · unfold StableHlo.held; rw [bigSep_empty]; iempintro
  isplitl [Hz] <;> iassumption

/-! ## The region -/

theorem share_eq (c : Dev nD) (w : Fin cfg0.W) : (dat V c).share w = fullShare := by unfold Dat.share; split <;> rfl

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem owed_cut (c : Dev nD) (t : Fin (cfg0.N + 1)) (g : GSem nD τ sig) (i : Unit) (h : 0 < (dat V c).owed t g i) : i ∈ L g ∧ 0 < lv g i := by
  have h' : 0 < (if t.val = 0 then O₀ c else 0) g i := h
  split at h'
  · rcases O₀_pos h' with ⟨r, rfl⟩ | ⟨r, rfl⟩ | ⟨r, rfl⟩
    · exact ⟨by rw [L_tc]; exact Finset.mem_singleton_self _, Nat.one_pos⟩
    · exact ⟨by rw [L_tc]; exact Finset.mem_singleton_self _, by rw [lv_d]; decide⟩
    · exact ⟨by rw [L_tc]; exact Finset.mem_singleton_self _, by rw [lv_d]; decide⟩
  · exact absurd h' (Nat.lt_irrefl 0)

theorem staging_level : ∀ (w : Fin 4) (c : Dev nD) (s : Fin (spec0 w).nbuf), lv ((c : Thread nD τ), .dma ((spec0 w).sem s)) () ≤ 0 := by
  decide

/-- The buffers no window stages. -/
abbrev others : Finset (DevRef τ sig) := Pipeline.ucRefs τ sig \ Pipeline.arrRefs (τ := τ) spec0

/-- What a device holds when the body has run: the result is there, the rest as it was. -/
def left (c : Dev nD) : Valuation τ sig (Elt F) := Function.update (V c) main_v89 (outV (inp V))

theorem out_mem : (Proc.devRef .tc main_v89 : DevRef τ sig) ∈ Pipeline.arrRefs (τ := τ) spec0 := by decide
theorem left_ne (c : Dev nD) {b : DevRef τ sig} (h : b ≠ Proc.devRef .tc main_v89) : left V c b = V c b := by
  unfold left; exact Function.update_of_ne h _ _
theorem left_out (c : Dev nD) : left V c (Proc.devRef .tc main_v89) = outV (inp V) := by
  unfold left; exact Function.update_self (f := V c) _ _
theorem left_off (c : Dev nD) {b : DevRef τ sig} (hb : b ∈ others) : left V c b = V c b :=
  left_ne V c fun h => (Finset.mem_sdiff.mp hb).2 (by rw [h]; exact out_mem)

set_option backward.isDefEq.respectTransparency.types false in
def reg : Pipeline.RegionSeg (pcfgs (F := F)) adm (pdats V) () defs₀ 𝒱₀ L lv 0 :=
  Pipeline.RegionSeg.ofTalk (pcfgs (F := F)) adm (pdats V) () defs₀ 𝒱₀ L lv 0 osem (by decide : Pipeline.OwnSemFacts spec0 osem)
    ∅ others (Finset.empty_subset _) kit rfl (fun c => (body_obligation V c).loose)
    (fun _ => 0) O₀ (fun c => (owed_zero V c).trans (zero_add _).symm) (owed_last V) (fun _ => rfl) (share_eq V)
    V (left V) (fun c b hb => left_off V c (Finset.mem_sdiff.mp hb).1)
    (rides V) (fun c => semVal (barCell c) 0) (opened V) (fun c => semVal (barCell c) 0) (hopen V) (hin V) (fun c => hout V (left V c) c)
    (fun c => by iintro H; imodintro; iexact H)
    (fun _ => 0)
    ⟨fun c w s => by rw [L_tc]; exact Finset.mem_singleton_self _, fun c w s => staging_level w c s, fun c t g i h => owed_cut V c t g i h⟩
    (fun _ => iprop(emp))
    (fun c w => by fin_cases w <;> rfl)
    (fun c w => by
      fin_cases w
      · exact (arrAt_0 V c _).trans (left_ne V c (by decide)).symm
      · exact (arrAt_1 V c _).trans (left_ne V c (by decide)).symm
      · exact (arrAt_2 V c _).trans (left_ne V c (by decide)).symm
      · exact (arrAt_3 V c).trans (left_out V c).symm)

end Cert.Lookup
-- ==== Proof.Deal.lean ====
/- What the launch deals to each device: tokens, places and credits. -/
module

public import proofs.«01_k».proof.Proof.Region

@[expose] public section

noncomputable section

namespace Cert.Lookup

open Cert.KernelIdeal Cert.KernelIdeal.Gen Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : Dev nD → Valuation τ sig (Elt F))

/-! ## The tokens -/

/-- A device's duties: its barrier's seven, and one for each of its twenty-eight. -/
def tokAt (x : Fin 5 × Fin 7) : SemLoc sig × Fin 7 := match x.1 with
  | 0 => (.reg barS, x.2) | 1 => (osem (0, x.2), 0) | 2 => (osem (1, x.2), 0) | 3 => (osem (2, x.2), 0) | 4 => (osem (3, x.2), 0)
theorem tokAt_inj : Function.Injective tokAt := by decide
def duties : Finset (GSem nD τ sig × ℕ × Fin 7) :=
  Finset.univ.map ⟨fun cx : Dev nD × (Fin 5 × Fin 7) => (((cx.1 : Thread nD τ), (tokAt cx.2).1), 0, (tokAt cx.2).2), fun _ _ h =>
    Prod.ext (congrArg (fun t : GSem nD τ sig × ℕ × Fin 7 => t.1.1.1) h)
      (tokAt_inj (Prod.ext (congrArg (fun t : GSem nD τ sig × ℕ × Fin 7 => t.1.2) h) (congrArg (fun t : GSem nD τ sig × ℕ × Fin 7 => t.2.2) h)))⟩

omit [FloatOps F] in
theorem by_five (Φ : Fin 5 × Fin 7 → sProp 𝕄) : (bigSep Finset.univ Φ)
    = iprop((all fun r => Φ (0, r)) ∗ (all fun r => Φ (1, r)) ∗ (all fun r => Φ (2, r)) ∗ (all fun r => Φ (3, r)) ∗ (all fun r => Φ (4, r))) := by
  rw [bigSep_univ_prod, bigSep_univ_eq_bigSepL [0, 1, 2, 3, 4] (by decide) (by decide)]
  simp only [bigSepL_cons', bigSepL_nil]
  exact congrArg (fun X : sProp 𝕄 => iprop((all fun r => Φ (0, r)) ∗ (all fun r => Φ (1, r)) ∗ (all fun r => Φ (2, r)) ∗ (all fun r => Φ (3, r)) ∗ X))
    (equiv_iff.mp sep_emp)

/-- The tokens of the duties at a device's own semaphores. -/
def holds (c : Dev nD) : sProp 𝕄 :=
  iprop((all fun r => dutyTok ER (barCell c) 0 r)
    ∗ (all fun r => dutyTok ER (dCell 0 r c) 0 0) ∗ (all fun r => dutyTok ER (dCell 1 r c) 0 0)
    ∗ (all fun r => dutyTok ER (dCell 2 r c) 0 0) ∗ (all fun r => dutyTok ER (dCell 3 r c) 0 0))

omit [FloatOps F] in
theorem duties_eq : bigSep duties (fun x => (dutyTok ER x.1 x.2.1 x.2.2 : sProp 𝕄)) = bigSep Finset.univ fun c : Dev nD => holds (F := F) c := by
  unfold duties; rw [bigSep_map, bigSep_univ_prod]
  exact bigSep_congr fun c _ => by unfold holds; rw [by_five]; rfl

omit [FloatOps F] in
/-- Each exchange's tokens may be handed to the partners. -/
theorem across (Φ : Fin 7 → Dev nD → sProp 𝕄) :
    (bigSep Finset.univ fun c : Dev nD => all fun r => Φ r c) = bigSep Finset.univ fun c : Dev nD => all fun r => Φ r (peer r c) := by
  unfold all
  rw [bigSep_univ_comm, bigSep_univ_comm (fun (c : Dev nD) r => Φ r (peer r c))]
  exact bigSep_congr fun r _ => bigSep_univ_equiv (peerEquiv r) (Φ r)

omit [FloatOps F] in
theorem holds_spends : (bigSep Finset.univ fun c : Dev nD => holds (F := F) c) = bigSep Finset.univ fun c : Dev nD => spends (F := F) c := by
  unfold holds spends
  simp only [bigSep_sep']
  rw [across (fun r c => dutyTok ER (barCell c) 0 r), across (fun r c => dutyTok ER (dCell 1 r c) 0 0), across (fun r c => dutyTok ER (dCell 3 r c) 0 0)]

/-! ## The credits -/

theorem owing_apply (f : Fin 7 → CellTallies nD τ sig Unit) (l : List (Fin 7)) (g : GSem nD τ sig) (u : Unit) :
    owing f l g u = (l.map fun r => f r g u).sum := by
  induction l with
  | nil => rfl
  | cons r l ih => rw [owing, Pi.add_apply, Finsupp.add_apply, ih, List.map_cons, List.sum_cons, Nat.add_comm]

theorem owing_none {f : Fin 7 → CellTallies nD τ sig Unit} {g : GSem nD τ sig} (h : ∀ r, f r g () = 0) (l : List (Fin 7)) : owing f l g () = 0 := by
  rw [owing_apply]
  exact List.sum_eq_zero fun x hx => by obtain ⟨r, -, rfl⟩ := List.mem_map.mp hx; exact h r

theorem owing_one {f : Fin 7 → CellTallies nD τ sig Unit} {g : GSem nD τ sig} {r : Fin 7} {n : ℕ} (h : ∀ r', f r' g () = if r' = r then n else 0) :
    owing f order g () = n := by
  rw [owing_apply]
  simp only [h]
  fin_cases r <;> simp [order]

theorem osem_ne_bar : ∀ kr : Fin 4 × Fin 7, osem kr ≠ .reg barS := by decide
theorem dev_of_cell {c d : Dev nD} {sm sm' : SemLoc sig} (h : (((c : Thread nD τ), sm) : GSem nD τ sig) = ((d : Thread nD τ), sm')) : c = d :=
  congrArg (fun g : GSem nD τ sig => g.1.1) h

theorem tally_else {g g' : GSem nD τ sig} (h : g'.2 ≠ g.2) (n : ℕ) : (tallyAt g () n : CellTallies nD τ sig Unit) g' () = 0 := by
  rw [tallyAt_ne_cell fun e => h (congrArg Prod.snd e)]; rfl
theorem osem_kind {k k' : Fin 4} (h : k ≠ k') (r r' : Fin 7) : osem (k, r) ≠ osem (k', r') := fun e => h (congrArg Prod.fst (osem_inj e))
theorem row_at_bar (c d : Dev nD) (r : Fin 7) : oRow d r (barCell c) () = 0 := tally_else (osem_ne_bar (1, r)).symm _
theorem chk_at_bar (c d : Dev nD) (r : Fin 7) : oChk d r (barCell c) () = 0 := tally_else (osem_ne_bar (3, r)).symm _
theorem bar_at_d (k : Fin 4) (r' : Fin 7) (c d : Dev nD) (r : Fin 7) : oBar d r (dCell k r' c) () = 0 := tally_else (osem_ne_bar (k, r')) _
theorem row_at_chk (c d : Dev nD) (r r' : Fin 7) : oRow d r (dCell 3 r' c) () = 0 := tally_else (osem_kind (by decide) r' r) _
theorem chk_at_row (c d : Dev nD) (r r' : Fin 7) : oChk d r (dCell 1 r' c) () = 0 := tally_else (osem_kind (by decide) r' r) _

theorem tally_at (k : Fin 4) (n : ℕ) (c d : Dev nD) (r r' : Fin 7) :
    (tallyAt (dCell k r' (peer r' d)) () n : CellTallies nD τ sig Unit) (dCell k r c) () = if r' = r then (if d = peer r c then n else 0) else 0 := by
  rw [tallyAt_apply]
  by_cases hr : r' = r
  · subst hr
    rw [if_pos rfl]
    by_cases hd : d = peer r' c
    · subst hd; rw [peer_peer, if_pos ⟨rfl, rfl⟩, if_pos rfl]
    · rw [if_neg hd, if_neg fun h => hd (by rw [← peer_peer r' d, ← dev_of_cell h.1])]
  · rw [if_neg hr, if_neg fun h => hr (congrArg Prod.snd (osem_inj (show osem (k, r) = osem (k, r') from congrArg Prod.snd h.1))).symm]

theorem owed_at_row (c d : Dev nD) (r : Fin 7) : O₀ d (dCell 1 r c) () = if d = peer r c then N₁ else 0 := by
  unfold O₀ O₁ O₂
  simp only [Pi.add_apply, Finsupp.add_apply]
  rw [owing_none (bar_at_d 1 r c d), owing_none (fun r' => chk_at_row c d r' r), owing_one (fun r' => tally_at 1 N₁ c d r r'), Nat.zero_add, Nat.add_zero]
theorem owed_at_chk (c d : Dev nD) (r : Fin 7) : O₀ d (dCell 3 r c) () = if d = peer r c then N₂ else 0 := by
  unfold O₀ O₁ O₂
  simp only [Pi.add_apply, Finsupp.add_apply]
  rw [owing_none (bar_at_d 3 r c d), owing_none (fun r' => row_at_chk c d r' r), owing_one (fun r' => tally_at 3 N₂ c d r r'), Nat.zero_add, Nat.zero_add]
theorem signal_at (c d : Dev nD) (r : Fin 7) : oBar d r (barCell c) () = if d = peer r c then 1 else 0 := by
  rw [tallyAt_apply]
  by_cases hd : d = peer r c
  · subst hd; rw [peer_peer, if_pos ⟨rfl, rfl⟩, if_pos rfl]
  · rw [if_neg hd, if_neg fun h => hd (by rw [← peer_peer r d, ← dev_of_cell h.1])]
theorem owed_at_bar (c : Dev nD) : ∑ d : Dev nD, O₀ d (barCell c) () = 7 := by
  unfold O₀ O₁ O₂
  simp only [Pi.add_apply, Finsupp.add_apply]
  simp only [owing_none (row_at_bar c _), owing_none (chk_at_bar c _), Nat.add_zero]
  simp only [owing_apply, signalOrder, List.map_cons, List.map_nil, List.sum_cons, List.sum_nil, signal_at, Finset.sum_add_distrib,
    Finset.sum_ite_eq', Finset.mem_univ, if_true, Finset.sum_const_zero, Nat.reduceAdd]

theorem credit_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, owed_at_bar]
theorem credit_row (c : Dev nD) (r : Fin 7) :
    tallyOn (dCell 1 r c) (launchCredit (Pipeline.owing O₀) 0 (dCell 1 r c)) = (tallyAt (dCell 1 r c) () N₁ : CellTallies nD τ sig Unit) := by
  unfold tallyAt; refine congrArg _ (Finsupp.ext fun u => ?_); cases u
  rw [Pipeline.launchCredit_owing, Finsupp.single_eq_same, Finset.sum_congr rfl fun d _ => owed_at_row c d r,
    Finset.sum_ite_eq' Finset.univ (peer r c) fun _ => N₁, if_pos (Finset.mem_univ _)]
theorem credit_chk (c : Dev nD) (r : Fin 7) :
    tallyOn (dCell 3 r c) (launchCredit (Pipeline.owing O₀) 0 (dCell 3 r c)) = (tallyAt (dCell 3 r c) () N₂ : CellTallies nD τ sig Unit) := by
  unfold tallyAt; refine congrArg _ (Finsupp.ext fun u => ?_); cases u
  rw [Pipeline.launchCredit_owing, Finsupp.single_eq_same, Finset.sum_congr rfl fun d _ => owed_at_chk c d r,
    Finset.sum_ite_eq' Finset.univ (peer r c) fun _ => N₂, if_pos (Finset.mem_univ _)]

/-- The semaphores whose credit a device is given at launch, besides the barrier. -/
def landEmb : Fin 2 × Fin 7 ↪ SemLoc sig := ⟨fun x => osem (if x.1 = 0 then 1 else 3, x.2), by decide⟩

omit [FloatOps F] in
theorem creds (c : Dev nD) : (Pipeline.launchCred O₀ c : sProp 𝕄) ⊢ awaits c := by
  unfold Pipeline.launchCred awaits
  rw [bigSep_univ_at _ (SemLoc.reg barS), credit_bar]
  refine sep_mono_right ?_
  have hs : Finset.univ.map landEmb ⊆ (Finset.univ.erase (SemLoc.reg barS) : Finset (SemLoc sig)) := fun x hx => by
    obtain ⟨y, -, rfl⟩ := Finset.mem_map.mp hx
    exact Finset.mem_erase.mpr ⟨osem_ne_bar _, Finset.mem_univ _⟩
  refine BIBase.Entails.trans (bigSep_subset hs) ?_
  rw [bigSep_map, bigSep_univ_prod, bigSep_fin_two]
  refine Entails.of_eq ?_
  refine congrArg₂ (fun X Y : sProp 𝕄 => iprop(X ∗ Y)) ?_ ?_
  · exact bigSep_congr fun r _ => congrArg (fun t => (cred t : sProp 𝕄)) (credit_row c r)
  · exact bigSep_congr fun r _ => congrArg (fun t => (cred t : sProp 𝕄)) (credit_chk c r)

end Cert.Lookup
-- ==== Proof.Launch.lean ====
/- The whole program's run on the eight devices. -/
module

public import proofs.«01_k».proof.Proof.Deal

@[expose] public section

noncomputable section

namespace Cert.Lookup

open Cert.KernelIdeal Cert.KernelIdeal.Gen Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What the host leaves for the body. -/
abbrev enter (c : Dev nD) : Valuation τ sig (Elt F) := V13 m c

/-- What rides beside the buffers to the region, and from it. -/
def beside : Fin 2 → Dev nD → sProp 𝕄
  | 0 => fun c => iprop(rides (enter m) c ∗ (∃ r, prngReg c r) ∗ ∃ W, owes (c : Thread nD τ) (O₀ c) W)
  | 1 => fun c => iprop(semVal (barCell c) 0 ∗ ∃ W, owes (c : Thread nD τ) 0 W)

abbrev steps (c : Dev nD) := segs m 𝒱₀ L lv (beside m) () (pdats (enter m)) (reg (enter m)) c

theorem parts (Φ Ψ : Dev nD → sProp 𝕄) : bigSep Finset.univ (fun c => iprop(Φ c ∗ Ψ c)) ⊢ iprop(bigSep Finset.univ Φ ∗ bigSep Finset.univ Ψ) :=
  Entails.of_eq (bigSep_sep' _ _ _)
theorem whole (Φ Ψ : Dev nD → sProp 𝕄) : iprop(bigSep Finset.univ Φ ∗ bigSep Finset.univ Ψ) ⊢ bigSep Finset.univ (fun c => iprop(Φ c ∗ Ψ c)) :=
  Entails.of_eq (bigSep_sep' _ _ _).symm

/-! ## Into the region and out of it -/

theorem arr_unscoped : ∀ w : Fin 4, (Pipeline.arrRef spec0 w).isScoped = false := by decide
theorem held_split (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) others W) :=
  StableHlo.held_sub_split (c : Thread nD τ) (Pipeline.arrRefs_sub_ucRefs spec0 arr_unscoped) W

theorem reg_pre (c : Dev nD) :
    iprop(StableHlo.held (c : Thread nD τ) (Pipeline.ucRefs τ sig) (enter m c) ∗ beside m 0 c) ⊢ (reg (enter m)).pre c := by
  show _ ⊢ iprop(StableHlo.held (c : Thread nD τ) (Pipeline.arrRefs (τ := τ) spec0) (enter m c) ∗ (∃ r, prngReg c r)
    ∗ (StableHlo.held (c : Thread nD τ) others (enter m c) ∗ emp) ∗ rides (enter m) c ∗ ∃ Wd, owes (c : Thread nD τ) (0 + O₀ c) Wd)
  rw [held_split, zero_add]
  unfold beside
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg_post (c : Dev nD) :
    (reg (enter m)).post c ⊢ iprop(StableHlo.held (c : Thread nD τ) (Pipeline.ucRefs τ sig) (left (enter m) c) ∗ beside m 1 c) := by
  show iprop(StableHlo.held (c : Thread nD τ) (Pipeline.arrRefs (τ := τ) spec0) (left (enter m) c) ∗ (∃ r, prngReg c r)
    ∗ (StableHlo.held (c : Thread nD τ) others (left (enter m) c) ∗ emp) ∗ semVal (barCell c) 0 ∗ ∃ Wd, owes (c : Thread nD τ) (0 : CellTallies nD τ sig Unit) Wd) ⊢ _
  rw [held_split]
  unfold beside
  iintro ⟨Ha, -, ⟨Ho, -⟩, Hb, HO⟩
  isplitl [Ha Ho]; · isplitl [Ha] <;> iassumption
  isplitl [Hb]; · iexact Hb
  iexact HO

/-! ## The launch -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-- The launch's ghost element: the windows' part and the exchanges' part. -/
def u₀ : UU :=
  (initOf (Pipeline.cells cfgs cellOf_inj) (Pipeline.launchToks cfgs cellOf_inj), launchOf barCells scCells duties)

/-- Something kept at the first device until the launch's one step. -/
def atFirst (X : sProp 𝕄) (c : Dev nD) : sProp 𝕄 := if c = 0 then X else iprop(emp)
omit [FloatOps F] in
theorem bigSep_atFirst (X : sProp 𝕄) : bigSep Finset.univ (atFirst X) = X := by
  rw [bigSep_univ_at _ (0 : Dev nD), bigSep_congr (s := Finset.univ.erase (0 : Dev nD)) (Ψ := fun _ => (BI.emp : sProp 𝕄))
      fun c hc => by unfold atFirst; rw [if_neg (Finset.ne_of_mem_erase hc)]; rfl, BI.bigSep_emp_const]
  unfold atFirst; rw [if_pos rfl]
  exact BI.equiv_iff.mp sep_emp

def ghost : Dev nD → sProp 𝕄 := atFirst (BI.own (ER (launchOf barCells scCells duties)))

omit [FloatOps F] in
theorem launch_elem : (ownU u₀ : sProp 𝕄) ⊢ |={Set.univ}=> iprop(BI.own (EP (initOf (Pipeline.cells cfgs cellOf_inj) (Pipeline.launchToks cfgs cellOf_inj)))
    ∗ bigSep Finset.univ (ghost (F := F))) := by
  unfold u₀ ghost
  rw [bigSep_atFirst]
  iintro Hu
  ihave H := (ownU_pair _ _) $$ Hu
  icases H with ⟨HP, HX⟩
  imodintro
  isplitl [HP]; · iexact HP
  iexact HX

omit [FloatOps F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's part that is not shared. -/
def linear (c : Dev nD) : sProp 𝕄 :=
  iprop(atPos ER (barCell c) 0 ∅ 0 ∗ (bigSep Finset.univ fun kr : Fin 4 × Fin 7 => openTok ER (dCell kr.1 kr.2 c)) ∗ spends c)
def bundle (ρ : Dev nD → PrngReg) (c : Dev nD) : sProp 𝕄 :=
  iprop(awaits c ∗ owes (c : Thread nD τ) (O₀ c) ∅ ∗ prngReg c (ρ c))

theorem beside_intro (ρ : Dev nD → PrngReg) (K : GSem nD τ sig → ℕ) (c : Dev nD) :
    iprop(records (inp (enter m)) K ∗ (linear c ∗ bundle ρ c)) ⊢ beside m 0 c := by
  unfold bundle linear beside rides
  iintro ⟨#HR, ⟨Hat, Hop, Hsp⟩, Haw, HO, Hp⟩
  isplitr [HO Hp]
  · isplitr [Haw]
    · iexists K
      isplitr; · iexact HR
      isplitl [Hat]; · iexact Hat
      isplitl [Hop] <;> iassumption
    · iexact Haw
  isplitl [Hp]; · iexists (ρ c); iexact Hp
  iexists ∅; iexact HO

theorem init (ρ : Dev nD → PrngReg) :
    iprop((bigSep Finset.univ fun c : Dev nD => iprop(unscopedSems0 c ∗ owes (c : Thread nD τ) (O₀ c) ∅ ∗ Pipeline.launchCred O₀ c ∗ prngReg c (ρ c) ∗ ghost c)) ∗ levAts L lv)
      ⊢ (|={Set.univ}=> bigSep Finset.univ (beside m 0) : sProp 𝕄) := by
  have hcore (c : Dev nD) : iprop(unscopedSems0 c ∗ owes (c : Thread nD τ) (O₀ c) ∅ ∗ Pipeline.launchCred O₀ c ∗ prngReg c (ρ c) ∗ ghost c)
      ⊢ (iprop(bundle ρ c ∗ (semVal (barCell c) 0 ∗ ghost c)) : sProp 𝕄) := by
    rw [unscopedSems0_eq]
    unfold bundle
    iintro ⟨Hus, HO, Hcr, Hp, HG⟩
    ihave Hc := (creds (F := F) c) $$ Hcr
    isplitl [Hc HO Hp]
    · isplitl [Hc]; · iexact Hc
      isplitl [HO] <;> iassumption
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun kr : Fin 4 × Fin 7 => openTok ER (dCell kr.1 kr.2 c)) :=
    Entails.of_eq (by rw [bigSep_map, bigSep_univ_prod]; rfl)
  have htok : bigSep duties (fun x => (dutyTok ER x.1 x.2.1 x.2.2 : sProp 𝕄)) ⊢ bigSep Finset.univ fun c : Dev nD => spends (F := F) c :=
    Entails.of_eq (duties_eq.trans holds_spends)
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ ghost c))
      ⊢ (bigSep Finset.univ fun c : Dev nD => iprop(bundle ρ c ∗ (semVal (barCell c) 0 ∗ ghost c)) : sProp 𝕄) from bigSep_mono fun c _ => hcore c) $$ H
  ihave H2 := (parts _ _) $$ H'; icases H2 with ⟨HB, H3⟩
  ihave H4 := (parts _ _) $$ H3; icases H4 with ⟨Hv, HG⟩
  ihave Hu := (show bigSep Finset.univ (ghost (F := F)) ⊢ BI.own (ER (launchOf barCells scCells duties)) from
    Entails.of_eq (bigSep_atFirst (F := F) (BI.own (ER (launchOf barCells scCells duties))))) $$ HG
  imod (Rounds.fund_launch ER (sched (inp (enter m))) disjoint_cells (fun g _ h => h) duties) $$ [Hv Hu] with ⟨%κ, -, #Hinv, #Hr, Hat, Hopen, Htok⟩
  · isplitl [Hv]
    · iapply hv $$ Hv
    · iexact Hu
  imodintro
  iapply (bigSep_with_persistent (R := records (inp (enter m)) κ) (Φ := fun c => iprop(linear c ∗ bundle ρ c)) fun c _ => beside_intro m ρ κ c)
  isplitr
  · unfold records
    isplitr; · iexact Hinv
    iexact Hr
  iapply (whole _ _)
  isplitr [HB]
  · unfold linear
    iapply (whole _ _); isplitl [Hat]; · iapply hat $$ Hat
    iapply (whole _ _); isplitl [Hopen]; · iapply hopen $$ Hopen
    iapply htok $$ Htok
  · iexact HB

/-! ## The run -/

theorem unscoped_eq : ∀ sm : SemLoc sig, sm.isScoped .tc = false → sm = .reg barS := by decide
theorem enter_arg0 (c : Dev nD) : enter m c main_arg0 = m ((c : Thread nD τ).loc main_arg0) :=
  (V14_of m (fun _ r c => m ((c : Thread nD τ).loc r)) c main_arg0 (by decide)).symm.trans (V14_main_arg0 m _ c)
theorem enter_arg1 (c : Dev nD) : enter m c main_arg1 = m ((c : Thread nD τ).loc main_arg1) :=
  (V14_of m (fun _ r c => m ((c : Thread nD τ).loc r)) c main_arg1 (by decide)).symm.trans (V14_main_arg1 m _ c)

set_option backward.isDefEq.respectTransparency.types false in
/-- Every run ends, with the arguments as they were, the result as the body left it and every semaphore at zero. -/
theorem run_main (ρ : Dev nD → PrngReg) : θ_run defs (onTc (τ := τ) (main (F := F))) ⟨m, fun _ => 0, ρ⟩ (fun r =>
    (∀ c : Dev nD, r.2.mem ((c.tc : Thread nD τ).loc main_v89) = outV (inp (enter m))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine Pipeline.θ_run_regions_kit_dev_sems (pcfgs (F := F)) adm (pdats (enter m)) () cellOf_inj EP defs₀ 𝒱₀ L lv m ρ main (steps m)
    (fun c Q => by
      rewrite [main_chain c, Pipeline.Seg.run_eq_chain,
        show (steps m c).map Pipeline.Seg.prog = [
          StableHlo.seq (hostOps0 c), StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, StableHlo.seq hostOps0_12,
          Prog.lift (.customCall (Pipeline.entry 0) ()) ] from rfl]
      dsimp (config := { failIfUnchanged := false }) only
      exact .rfl)
    (fun c => by simp only [steps, segs, Pipeline.Seg.pipes_host, Pipeline.Seg.pipes_region, Pipeline.Seg.pipes_nil]; decide)
    O₀ L_of_ne ghost u₀ launch_elem
    (T₀ := fun c => iprop(StableHlo.held (c : Thread nD τ) (Pipeline.ucRefs τ sig) (V0 m c) ∗ beside m 0 c))
    (Tₙ := fun c => iprop(StableHlo.held (c : Thread nD τ) (Pipeline.ucRefs τ sig) (left (enter m) c) ∗ semVal (barCell c) 0))
    (hch := fun c => ⟨.rfl, .rfl, .rfl, .rfl, .rfl, .rfl, .rfl, .rfl, .rfl, .rfl, .rfl, .rfl, .rfl, reg_pre m c, (reg_post m c).trans ?_⟩)
    (hinit := ?_)
    (QY := fun c s => (s.mem ((c.tc : Thread nD τ).loc main_v89) = outV (inp (enter m))
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (barCell c) = 0)
    (hfin := fun c s' => ?_)
    (hQ := fun s h hs => ⟨fun c => (h c).1, sem_eq_zero hs fun c sm hsm => by obtain rfl := unscoped_eq sm hsm; exact (h c).2⟩)
  · unfold beside
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ ghost c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ ghost c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    have hjoin : iprop((bigSep Finset.univ fun c : Dev nD => StableHlo.held (c : Thread nD τ) (Pipeline.ucRefs τ sig) (V0 m c)) ∗ bigSep Finset.univ (beside m 0))
        ⊢ (bigSep Finset.univ fun c : Dev nD => iprop(StableHlo.held (c : Thread nD τ) (Pipeline.ucRefs τ sig) (V0 m c) ∗ beside m 0 c) : sProp 𝕄) :=
      Entails.of_eq (bigSep_sep' _ _ _).symm
    iintro ⟨H, Hla⟩
    ihave H' := hsplit $$ H
    icases H' with ⟨Hh, Hr⟩
    imod (init m ρ) $$ [Hr Hla] with HE
    · isplitl [Hr]; · iexact Hr
      iexact Hla
    imodintro
    iapply hjoin
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (left (enter m) c) s') $$ [Hh HSI]
    · isplitl [Hh] <;> iassumption
    icases Hr with ⟨%h, HSI⟩
    imodintro
    isplitr
    · ipureintro
      exact ⟨⟨(h (Proc.devRef .tc main_v89) (Finset.mem_filter.mpr ⟨StableHlo.devRef_mem_tcRefs main_v89, by decide⟩)).trans (left_out (enter m) c),
        (h (Proc.devRef .tc main_arg0) (Finset.mem_filter.mpr ⟨StableHlo.devRef_mem_tcRefs main_arg0, by decide⟩)).trans
          ((left_ne (enter m) c (by decide)).trans (enter_arg0 m c)),
        (h (Proc.devRef .tc main_arg1) (Finset.mem_filter.mpr ⟨StableHlo.devRef_mem_tcRefs main_arg1, by decide⟩)).trans
          ((left_ne (enter m) c (by decide)).trans (enter_arg1 m c))⟩, by simpa using hb⟩
    · iexact HSI

end Cert.Lookup
-- ==== Proof.Host.lean ====
/- What the host computes before the kernel: the words naming the device and its chunk. -/
module

public import Idealize.ShloMosaic.Lib.StableHlo.RunClose
public import proofs.«01_k».proof.Proof.Launch

@[expose] public section

noncomputable section

namespace Cert.Lookup

open Cert.KernelIdeal Cert.KernelIdeal.Gen Cert.KernelIdeal.Facts₀

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.StableHlo

variable (m : (ℓ : Loc nD τ sig) → Buf (Elt F) ℓ) (c : Dev nD)

/-- A word that does not depend on where it is read. -/
abbrev only (w : BitVec 32) : IVec S_ 32 := fun _ => w

theorem only_ext {f : IVec S_ 32} {w : BitVec 32} (h : f (Shape.Idx.first Gen.facts.h_S_) = w) : f = only w :=
  funext fun i => (congrArg f (funext fun a => a.elim0)).trans h

theorem v4_eq : V1 m c main_v4 = only (BitVec.ofNat 32 c.val) := by
  have h : V1 m c main_v4 = Host.remui (Host.divui (constantI S_ 32 (Dev.word c)) (constantI S_ 32 1#32)) (constantI S_ 32 8#32) := by
    after_results <;> rfl
  rw [h]
  clear h
  refine only_ext ?_
  revert c; decide +kernel

/-! Remainder, quotient and sign as the host spells them. -/

def remW (x y : IVec S_ 32) : IVec S_ 32 :=
  let q := select (cmpi .eq y (constantI S_ 32 0#32)) (constantI S_ 32 1#32) y
  let r := Host.remsi x q
  select (andi (cmpi .ne (cmpi .slt r (constantI S_ 32 0#32)) (cmpi .slt q (constantI S_ 32 0#32))) (cmpi .ne r (constantI S_ 32 0#32))) (addi r q) r

def quoW (x y : IVec S_ 32) : IVec S_ 32 :=
  let q := Host.divsi x y
  select (andi (cmpi .ne (signi x) (signi y)) (cmpi .ne (Host.remsi x y) (constantI S_ 32 0#32))) (subi q (constantI S_ 32 1#32)) q

theorem v5_eq : V2 m c main_v5 = only (BitVec.ofNat 32 (c.val % 4)) := by
  have h : V2 m c main_v5 = remW (V1 m c main_v4) (constantI S_ 32 4#32) := by
    after_results <;> rfl
  rw [h, v4_eq]
  clear h
  refine only_ext ?_
  revert c; decide +kernel

theorem v4_at3 : V3 m c main_v4 = only (BitVec.ofNat 32 c.val) :=
  (V3_of m c main_v4 (by decide)).trans ((V2_of m c main_v4 (by decide)).trans (v4_eq m c))
theorem v5_at5 : V5 m c main_v5 = only (BitVec.ofNat 32 (c.val % 4)) :=
  (V5_of m c main_v5 (by decide)).trans ((V4_of m c main_v5 (by decide)).trans ((V3_of m c main_v5 (by decide)).trans (v5_eq m c)))

theorem v6_eq : V4 m c main_v6 = only (BitVec.ofNat 32 (c.val / 4)) := by
  have h : V4 m c main_v6 = quoW (V3 m c main_v4) (constantI S_ 32 4#32) := by
    after_results <;> rfl
  rw [h, v4_at3]
  clear h
  refine only_ext ?_
  revert c; decide +kernel

theorem v7_eq : V6 m c main_v7 = only (BitVec.ofNat 32 (c.val % 4 / 2)) := by
  have h : V6 m c main_v7 = quoW (V5 m c main_v5) (constantI S_ 32 2#32) := by
    after_results <;> rfl
  rw [h, v5_at5]
  clear h
  refine only_ext ?_
  revert c; decide +kernel

theorem v5_at7 : V7 m c main_v5 = only (BitVec.ofNat 32 (c.val % 4)) :=
  (V7_of m c main_v5 (by decide)).trans ((V6_of m c main_v5 (by decide)).trans (v5_at5 m c))

theorem v8_eq : V8 m c main_v8 = only (BitVec.ofNat 32 (c.val % 4 % 2)) := by
  have h : V8 m c main_v8 = remW (V7 m c main_v5) (constantI S_ 32 2#32) := by
    after_results <;> rfl
  rw [h, v5_at7]
  clear h
  refine only_ext ?_
  revert c; decide +kernel

theorem v7_at8 : V8 m c main_v7 = only (BitVec.ofNat 32 (c.val % 4 / 2)) :=
  (V8_of m c main_v7 (by decide)).trans ((V7_of m c main_v7 (by decide)).trans (v7_eq m c))
theorem v6_at8 : V8 m c main_v6 = only (BitVec.ofNat 32 (c.val / 4)) :=
  (V8_of m c main_v6 (by decide)).trans ((V7_of m c main_v6 (by decide)).trans ((V6_of m c main_v6 (by decide)).trans
    ((V5_of m c main_v6 (by decide)).trans (v6_eq m c))))
theorem v4_at8 : V8 m c main_v4 = only (BitVec.ofNat 32 c.val) :=
  (V8_of m c main_v4 (by decide)).trans ((V7_of m c main_v4 (by decide)).trans ((V6_of m c main_v4 (by decide)).trans
    ((V5_of m c main_v4 (by decide)).trans ((V4_of m c main_v4 (by decide)).trans (v4_at3 m c)))))

/-! ## The arrays -/

/-- The number of the device's chunk, wrapped around once where it is negative. -/
def slotW (v8 v7 v6 : IVec S_ 32) : IVec S_ 32 :=
  let x := addi (addi (muli (xori v8 v7) (constantI S_ 32 4#32)) (muli v7 (constantI S_ 32 2#32))) v6
  select (cmpi .slt x (constantI S_ 32 0#32)) (addi x (constantI S_ 32 8#32)) x
def zeroW : IVec S_ 32 :=
  select (cmpi .slt (constantI S_ 32 0#32) (constantI S_ 32 0#32)) (addi (constantI S_ 32 0#32) (constantI S_ 32 128#32)) (constantI S_ 32 0#32)

/-- The 128 indices of one chunk. -/
def rowW (idx : IVec S1024 32) (s z : IVec S_ 32) : IVec S1x128 32 :=
  Host.dynamicSlice S1x128 (shapeCast S8x128 idx Gen.facts.shapeCasts_S1024_S8x128)
    (fun k => ((![s, z] : Fin 2 → IVec S_ 32) k (Shape.Idx.first Gen.facts.h_S_)).toInt) Gen.facts.sliceFits_S8x128_S1x128

/-- The indices counted from a device's first row: eight chunks against this device, then this device's chunk against the eight. -/
def locW (idx : IVec S1024 32) (d s z : IVec S_ 32) : IVec S16x128 32 :=
  concatenate S16x128 0
    [⟨S8x128, subi (shapeCast S8x128 idx Gen.facts.shapeCasts_S1024_S8x128)
        (broadcastInDim S8x128 ![] Gen.facts.bcast_S_S8x128 (muli d (constantI S_ 32 4096#32)))⟩,
     ⟨S8x128, subi
        (broadcastInDim S8x128 ![0, 1] Gen.facts.bcast_S1x128_S8x128_0_1 (broadcastInDim S1x128 ![1] Gen.facts.bcast_S128_S1x128_1
          (shapeCast S128 (rowW idx s z) Gen.facts.shapeCasts_S1x128_S128)))
        (broadcastInDim S8x128 ![0, 1] Gen.facts.bcast_S8x1_S8x128_0_1 (broadcastInDim S8x1 ![0] Gen.facts.bcast_S8_S8x1_0
          (muli (iotaInDim S8 32 0) (broadcastInDim S8 ![] Gen.facts.bcast_S_S8 (constantI S_ 32 4096#32)))))⟩]
    Gen.facts.concatenates_S8x128_S8x128_S16x128_d0

/-- Which of them lie in the device's 4096 rows. -/
def ownW2 (l : IVec S16x128 32) : IVec S16x128 1 :=
  andi (cmpi .sge l (broadcastInDim S16x128 ![] Gen.facts.bcast_S_S16x128 (constantI S_ 32 0#32)))
    (cmpi .slt l (broadcastInDim S16x128 ![] Gen.facts.bcast_S_S16x128 (constantI S_ 32 4096#32)))

/-- How many of them up to each position. -/
def cumW (o : IVec S16x128 1) : IVec S16x128 32 :=
  Host.reduceWindow IntOp.addi ![1, 128] ![1, 1] ![0, 127] ![0, 0] (extui 32 o Gen.facts.natLt_1_32)
    (broadcastInDim S_ ![] Gen.facts.bcast_S_S_ (constantI S_ 32 0#32)) Gen.facts.reduceWindows_S16x128_S16x128_w1s1p0_0_w128s1p127_0 Gen.facts.h_S_

/-- Which position is the one numbered `k`, as a matrix of bits. -/
def selW (o : IVec S16x128 1) (t : IVec S16x128 32) : IVec S16x40x128 1 :=
  andi (broadcastInDim S16x40x128 ![0, 1, 2] Gen.facts.bcast_S16x1x128_S16x40x128_0_1_2 (broadcastInDim S16x1x128 ![0, 2] Gen.facts.bcast_S16x128_S16x1x128_0_2 o))
    (cmpi .eq
      (broadcastInDim S16x40x128 ![0, 1, 2] Gen.facts.bcast_S16x1x128_S16x40x128_0_1_2 (broadcastInDim S16x1x128 ![0, 2] Gen.facts.bcast_S16x128_S16x1x128_0_2
        (subi t (broadcastInDim S16x128 ![] Gen.facts.bcast_S_S16x128 (constantI S_ 32 1#32)))))
      (broadcastInDim S16x40x128 ![0, 1, 2] Gen.facts.bcast_S1x40x1_S16x40x128_0_1_2 (broadcastInDim S1x40x1 ![1] Gen.facts.bcast_S40_S1x40x1_1 (iotaInDim S40 32 0))))

/-- What is picked at a position: the row, then the position itself. -/
def mulW (l : IVec S16x128 32) (o : IVec S16x128 1) : IVec S16x128 32 :=
  concatenate S16x128 0
    [⟨S8x128, select (extractStridedSlice S8x128 ![0, 0] o Gen.facts.slices_S16x128_S8x128_0_0) (extractStridedSlice S8x128 ![0, 0] l Gen.facts.slices_S16x128_S8x128_0_0)
        (broadcastInDim S8x128 ![] Gen.facts.bcast_S_S8x128 (constantI S_ 32 0#32))⟩,
     ⟨S8x128, broadcastInDim S8x128 ![0, 1] Gen.facts.bcast_S1x128_S8x128_0_1 (broadcastInDim S1x128 ![1] Gen.facts.bcast_S128_S1x128_1 (iotaInDim S128 32 0))⟩]
    Gen.facts.concatenates_S8x128_S8x128_S16x128_d0

def combW (sel : IVec S16x40x128 1) (mul : IVec S16x128 32) : IVec S16x40 32 :=
  Host.reduce IntOp.addi (muli (extui 32 sel Gen.facts.natLt_1_32)
      (broadcastInDim S16x40x128 ![0, 1, 2] Gen.facts.bcast_S16x1x128_S16x40x128_0_1_2 (broadcastInDim S16x1x128 ![0, 2] Gen.facts.bcast_S16x128_S16x1x128_0_2 mul)))
    (constantI S_ 32 0#32) Gen.facts.reducesTo_S16x40x128_S16x40_d2 Gen.facts.h_S_

/-- Which of the forty numbers are in use. -/
def validW (o : IVec S16x128 1) : IVec S16x40 1 :=
  cmpi .slt (broadcastInDim S16x40 ![0, 1] Gen.facts.bcast_S1x40_S16x40_0_1 (broadcastInDim S1x40 ![1] Gen.facts.bcast_S40_S1x40_1 (iotaInDim S40 32 0)))
    (broadcastInDim S16x40 ![0, 1] Gen.facts.bcast_S16x1_S16x40_0_1 (broadcastInDim S16x1 ![0] Gen.facts.bcast_S16_S16x1_0
      (Host.reduce IntOp.addi (extui 32 o Gen.facts.natLt_1_32) (constantI S_ 32 0#32) Gen.facts.reducesTo_S16x128_S16_d1 Gen.facts.h_S_)))

/-- The rows asked of the table. -/
def takeW (comb : IVec S16x40 32) : IVec S320x1 32 :=
  let x := shapeCast S320 (extractStridedSlice S8x40 ![0, 0] comb Gen.facts.slices_S16x40_S8x40_0_0) Gen.facts.shapeCasts_S8x40_S320
  broadcastInDim S320x1 ![0] Gen.facts.bcast_S320_S320x1_0
    (select (cmpi .slt x (broadcastInDim S320 ![] Gen.facts.bcast_S_S320 (constantI S_ 32 0#32)))
      (addi x (broadcastInDim S320 ![] Gen.facts.bcast_S_S320 (constantI S_ 32 4096#32))) x)

def rowsV (tab : FVec F S4096x512 .bf16) (comb : IVec S16x40 32) (valid : IVec S16x40 1) : FVec F S320x512 .bf16 :=
  mulf (Host.gather gather_S4096x512_S320x1_S320x512_1_0_n_n_0_1_1512 tab (takeW comb))
    (broadcastInDim S320x512 ![0, 1] Gen.facts.bcast_S320x1_S320x512_0_1 (uitofp .bf16 (broadcastInDim S320x1 ![0] Gen.facts.bcast_S320_S320x1_0
      (shapeCast S320 (extractStridedSlice S8x40 ![0, 0] valid Gen.facts.slices_S16x40_S8x40_0_0) Gen.facts.shapeCasts_S8x40_S320))))
def posV (comb : IVec S16x40 32) : IVec S8x40 32 := extractStridedSlice S8x40 ![8, 0] comb Gen.facts.slices_S16x40_S8x40_8_0
def valV (valid : IVec S16x40 1) : FVec F S8x40 .bf16 := uitofp .bf16 (extractStridedSlice S8x40 ![8, 0] valid Gen.facts.slices_S16x40_S8x40_8_0)

/-! ## What the host leaves -/

theorem arg1_at8 : V8 m c main_arg1 = V0 m c main_arg1 :=
  (V8_of m c main_arg1 (by decide)).trans ((V7_of m c main_arg1 (by decide)).trans ((V6_of m c main_arg1 (by decide)).trans
    ((V5_of m c main_arg1 (by decide)).trans ((V4_of m c main_arg1 (by decide)).trans ((V3_of m c main_arg1 (by decide)).trans
      ((V2_of m c main_arg1 (by decide)).trans (V1_of m c main_arg1 (by decide))))))))
theorem arg0_at12 : V12 m c main_arg0 = V0 m c main_arg0 :=
  (V12_of m c main_arg0 (by decide)).trans ((V11_of m c main_arg0 (by decide)).trans ((V10_of m c main_arg0 (by decide)).trans
    ((V9_of m c main_arg0 (by decide)).trans ((V8_of m c main_arg0 (by decide)).trans ((V7_of m c main_arg0 (by decide)).trans ((V6_of m c main_arg0 (by decide)).trans
    ((V5_of m c main_arg0 (by decide)).trans ((V4_of m c main_arg0 (by decide)).trans ((V3_of m c main_arg0 (by decide)).trans
      ((V2_of m c main_arg0 (by decide)).trans (V1_of m c main_arg0 (by decide))))))))))))

/-- The device's own word, and its chunk's. -/
def devW (c : Dev nD) : IVec S_ 32 := only (BitVec.ofNat 32 c.val)
def chunkW (c : Dev nD) : IVec S_ 32 := only (BitVec.ofNat 32 (slot c).val)

theorem slotW_eq : slotW (V8 m c main_v8) (V8 m c main_v7) (V8 m c main_v6) = chunkW c := by
  rw [v8_eq, v7_at8, v6_at8]
  refine only_ext ?_
  revert c; decide +kernel
theorem zeroW_eq : zeroW = only 0#32 := by
  refine only_ext ?_
  decide +kernel

/-- The located indices of device `c`. -/
def loc (idx : IVec S1024 32) (c : Dev nD) : IVec S16x128 32 := locW idx (devW c) (chunkW c) (only 0#32)
def own (idx : IVec S1024 32) (c : Dev nD) : IVec S16x128 1 := ownW2 (loc idx c)
def sel (idx : IVec S1024 32) (c : Dev nD) : IVec S16x40x128 1 := selW (own idx c) (cumW (own idx c))
def comb (idx : IVec S1024 32) (c : Dev nD) : IVec S16x40 32 := combW (sel idx c) (mulW (loc idx c) (own idx c))
def valid (idx : IVec S1024 32) (c : Dev nD) : IVec S16x40 1 := validW (own idx c)

/-- Two blocks of eight rows, one above the other. -/
def cat2 (a b : IVec S8x128 32) : IVec S16x128 32 :=
  concatenate S16x128 0 [⟨S8x128, a⟩, ⟨S8x128, b⟩] Gen.facts.concatenates_S8x128_S8x128_S16x128_d0

theorem v19_raw (W : Valuation τ sig (Elt F)) : after hostOps0_8 W main_v19 = subi (shapeCast S8x128 (W main_arg1) Gen.facts.shapeCasts_S1024_S8x128)
        (broadcastInDim S8x128 ![] Gen.facts.bcast_S_S8x128 (muli (W main_v4) (constantI S_ 32 4096#32))) := by
  after_results_simp_entrywise
  rfl
theorem v35_raw (W : Valuation τ sig (Elt F)) : after hostOps0_8 W main_v35 = subi
        (broadcastInDim S8x128 ![0, 1] Gen.facts.bcast_S1x128_S8x128_0_1 (broadcastInDim S1x128 ![1] Gen.facts.bcast_S128_S1x128_1
          (shapeCast S128 (rowW (W main_arg1) (slotW (W main_v8) (W main_v7) (W main_v6)) zeroW) Gen.facts.shapeCasts_S1x128_S128)))
        (broadcastInDim S8x128 ![0, 1] Gen.facts.bcast_S8x1_S8x128_0_1 (broadcastInDim S8x1 ![0] Gen.facts.bcast_S8_S8x1_0
          (muli (iotaInDim S8 32 0) (broadcastInDim S8 ![] Gen.facts.bcast_S_S8 (constantI S_ 32 4096#32))))) := by
  after_results_simp_entrywise
  rfl
theorem v36_raw (W : Valuation τ sig (Elt F)) : after hostOps0_8 W main_v36 = cat2 (after hostOps0_8 W main_v19) (after hostOps0_8 W main_v35) := by
  after_results <;> rfl
theorem v41_raw (W : Valuation τ sig (Elt F)) : after hostOps0_8 W main_v41 = ownW2 (after hostOps0_8 W main_v36) := by
  after_results <;> rfl

theorem v36_eq : V9 m c main_v36 = loc (V0 m c main_arg1) c := by
  have h : V9 m c main_v36 = locW (V8 m c main_arg1) (V8 m c main_v4) (slotW (V8 m c main_v8) (V8 m c main_v7) (V8 m c main_v6)) zeroW := by
    show after hostOps0_8 (V8 m c) _ = _
    rw [v36_raw, v19_raw, v35_raw]; rfl
  rw [h, slotW_eq, zeroW_eq, v4_at8, arg1_at8]; rfl
theorem v41_eq : V9 m c main_v41 = own (V0 m c main_arg1) c := by
  have h : V9 m c main_v41 = ownW2 (V9 m c main_v36) := v41_raw _
  rw [h, v36_eq]; rfl
theorem v41_at10 : V10 m c main_v41 = own (V0 m c main_arg1) c :=
  (V10_of m c main_v41 (by decide)).trans (v41_eq m c)
theorem v36_at10 : V10 m c main_v36 = loc (V0 m c main_arg1) c :=
  (V10_of m c main_v36 (by decide)).trans (v36_eq m c)
attribute [local irreducible] Host.reduceWindow in
theorem v42_eq : V10 m c main_v42 = cumW (own (V0 m c main_arg1) c) := by
  have h : V10 m c main_v42 = cumW (V9 m c main_v41) := by
    show after hostOps0_9 (V9 m c) _ = _
    generalize V9 m c = W
    after_results <;> rfl
  rw [h, v41_eq]
theorem v15_eq : V10 m c main_v15 = iotaInDim S40 32 0 :=
  (V10_of m c main_v15 (by decide)).trans (by after_results <;> rfl)
theorem v16_eq : V12 m c main_v16 = iotaInDim S128 32 0 :=
  (V12_of m c main_v16 (by decide)).trans ((V11_of m c main_v16 (by decide)).trans ((V10_of m c main_v16 (by decide)).trans (by after_results <;> rfl)))
theorem v15_at12 : V12 m c main_v15 = iotaInDim S40 32 0 :=
  (V12_of m c main_v15 (by decide)).trans ((V11_of m c main_v15 (by decide)).trans (v15_eq m c))
theorem v41_at12 : V12 m c main_v41 = own (V0 m c main_arg1) c :=
  (V12_of m c main_v41 (by decide)).trans ((V11_of m c main_v41 (by decide)).trans (v41_at10 m c))
theorem v52_eq : V12 m c main_v52 = sel (V0 m c main_arg1) c := by
  refine (V12_of m c main_v52 (by decide)).trans ?_
  have h : V11 m c main_v52 = andi (broadcastInDim S16x40x128 ![0, 1, 2] Gen.facts.bcast_S16x1x128_S16x40x128_0_1_2 (broadcastInDim S16x1x128 ![0, 2] Gen.facts.bcast_S16x128_S16x1x128_0_2 (V10 m c main_v41)))
    (cmpi .eq
      (broadcastInDim S16x40x128 ![0, 1, 2] Gen.facts.bcast_S16x1x128_S16x40x128_0_1_2 (broadcastInDim S16x1x128 ![0, 2] Gen.facts.bcast_S16x128_S16x1x128_0_2
        (subi (V10 m c main_v42) (broadcastInDim S16x128 ![] Gen.facts.bcast_S_S16x128 (constantI S_ 32 1#32)))))
      (broadcastInDim S16x40x128 ![0, 1, 2] Gen.facts.bcast_S1x40x1_S16x40x128_0_1_2 (broadcastInDim S1x40x1 ![1] Gen.facts.bcast_S40_S1x40x1_1 (V10 m c main_v15)))) := by
    after_results <;> rfl
  rw [h, v41_at10, v42_eq, v15_eq]; rfl
theorem v55_eq : V12 m c main_v55 = select (extractStridedSlice S8x128 ![0, 0] (own (V0 m c main_arg1) c) Gen.facts.slices_S16x128_S8x128_0_0)
      (extractStridedSlice S8x128 ![0, 0] (loc (V0 m c main_arg1) c) Gen.facts.slices_S16x128_S8x128_0_0)
      (broadcastInDim S8x128 ![] Gen.facts.bcast_S_S8x128 (constantI S_ 32 0#32)) := by
  have h : V12 m c main_v55 = select (V11 m c main_v53) (V11 m c main_v54) (broadcastInDim S8x128 ![] Gen.facts.bcast_S_S8x128 (V11 m c main_c_19)) := by
    after_results <;> rfl
  have h53 : V11 m c main_v53 = extractStridedSlice S8x128 ![0, 0] (V10 m c main_v41) Gen.facts.slices_S16x128_S8x128_0_0 := by
    after_results <;> rfl
  have h54 : V11 m c main_v54 = extractStridedSlice S8x128 ![0, 0] (V10 m c main_v36) Gen.facts.slices_S16x128_S8x128_0_0 := by
    after_results <;> rfl
  have hc : V11 m c main_c_19 = constantI S_ 32 0#32 := by after_results <;> rfl
  rw [h, h53, h54, hc, v41_at10, v36_at10]

/-- The part of `mulW` computed last, from the part already there. -/
def mulW' (x : IVec S8x128 32) (y : IVec S128 32) : IVec S16x128 32 :=
  concatenate S16x128 0
    [⟨S8x128, x⟩, ⟨S8x128, broadcastInDim S8x128 ![0, 1] Gen.facts.bcast_S1x128_S8x128_0_1 (broadcastInDim S1x128 ![1] Gen.facts.bcast_S128_S1x128_1 y)⟩]
    Gen.facts.concatenates_S8x128_S8x128_S16x128_d0
def validW' (z : IVec S40 32) (o : IVec S16x128 1) : IVec S16x40 1 :=
  cmpi .slt (broadcastInDim S16x40 ![0, 1] Gen.facts.bcast_S1x40_S16x40_0_1 (broadcastInDim S1x40 ![1] Gen.facts.bcast_S40_S1x40_1 z))
    (broadcastInDim S16x40 ![0, 1] Gen.facts.bcast_S16x1_S16x40_0_1 (broadcastInDim S16x1 ![0] Gen.facts.bcast_S16_S16x1_0
      (Host.reduce IntOp.addi (extui 32 o Gen.facts.natLt_1_32) (constantI S_ 32 0#32) Gen.facts.reducesTo_S16x128_S16_d1 Gen.facts.h_S_)))

theorem comb_eq : combW (V12 m c main_v52) (mulW' (V12 m c main_v55) (V12 m c main_v16)) = comb (V0 m c main_arg1) c := by
  rw [v52_eq, v55_eq, v16_eq]; rfl
theorem valid_eq : validW' (V12 m c main_v15) (V12 m c main_v41) = valid (V0 m c main_arg1) c := by
  rw [v15_at12, v41_at12]; rfl

/-- The rows the device has taken from its table. -/
theorem v85_eq : V13 m c main_v85 = rowsV (V0 m c main_arg0) (comb (V0 m c main_arg1) c) (valid (V0 m c main_arg1) c) := by
  have h : V13 m c main_v85 = rowsV (V12 m c main_arg0) (combW (V12 m c main_v52) (mulW' (V12 m c main_v55) (V12 m c main_v16)))
      (validW' (V12 m c main_v15) (V12 m c main_v41)) := by
    after_results <;> rfl
  rw [h, comb_eq, valid_eq, arg0_at12]
/-- The places of its chunk each device's rows go to. -/
theorem v86_eq : V13 m c main_v86 = posV (comb (V0 m c main_arg1) c) := by
  have h : V13 m c main_v86 = posV (combW (V12 m c main_v52) (mulW' (V12 m c main_v55) (V12 m c main_v16))) := by
    after_results <;> rfl
  rw [h, comb_eq]
/-- Which of them are in use. -/
theorem v88_eq : V13 m c main_v88 = valV (valid (V0 m c main_arg1) c) := by
  have h : V13 m c main_v88 = valV (validW' (V12 m c main_v15) (V12 m c main_v41)) := by
    after_results <;> rfl
  rw [h, valid_eq]

end Cert.Lookup
-- ==== Proof.Reads.lean ====
/- Sums of words along the last axis, and running counts, read at an index. -/
module

public import Idealize.ShloMosaic.Lib.Pointwise
public import Idealize.ShloMosaic.Lib.Routing.Ops
public import proofs.«01_k».proof.Proof.Host

@[expose] public section

noncomputable section

namespace Cert.Lookup

open Idealize.ShloMosaic

/-- The source indices that drop to `(i, k)` are `(i, k, j)` for each `j`. -/
theorem fiber3 {a b n : ℕ} (h : (⟨3, ![a, b, n]⟩ : Shape).ReducesTo [2] ⟨2, ![a, b]⟩) (i : Fin a) (k : Fin b) :
    (Finset.univ.filter fun s => h.drop s = ix2 i k)
      = Finset.univ.map ⟨fun j : Fin n => ix3 i k j, fun j j' e => by
          have := congrFun e (2 : Fin 3)
          exact this⟩ := by
  ext s
  simp only [Finset.mem_filter, Finset.mem_univ, true_and, Finset.mem_map, Function.Embedding.coeFn_mk]
  have h0 : (h.drop s 0 : ℕ) = s 0 := Shape.ReducesTo.drop_apply_val h s 0
  have h1 : (h.drop s 1 : ℕ) = s 1 := Shape.ReducesTo.drop_apply_val h s 1
  constructor
  · intro e
    rw [e] at h0 h1
    refine ⟨s 2, ?_⟩
    funext d
    match d with
    | ⟨0, _⟩ => exact Fin.ext h0
    | ⟨1, _⟩ => exact Fin.ext h1
    | ⟨2, _⟩ => rfl
  · rintro ⟨j, rfl⟩
    funext d
    match d with
    | ⟨0, _⟩ => exact Fin.ext h0
    | ⟨1, _⟩ => exact Fin.ext h1

/-- A sum of words along the last of three axes. -/
theorem sum3 {a b n : ℕ} (x : IVec ⟨3, ![a, b, n]⟩ 32) (h : (⟨3, ![a, b, n]⟩ : Shape).ReducesTo [2] ⟨2, ![a, b]⟩)
    {u : Shape} (hu : 0 < u.numel) (i : Fin a) (k : Fin b) :
    Host.reduce IntOp.addi x (constantI u 32 0#32) h hu (ix2 i k) = Finset.univ.fold IntOp.addi 0#32 fun j : Fin n => x (ix3 i k j) := by
  rw [Host.reduce_eq_fold, fiber3, Finset.fold_map]
  rfl

/-- A sum of words of which at most the one at `j₀` is not zero. -/
theorem fold_one {n : ℕ} (x : Fin n → BitVec 32) (j₀ : Fin n) (hz : ∀ j, j ≠ j₀ → x j = 0#32) :
    Finset.univ.fold IntOp.addi 0#32 x = x j₀ := by
  have hs : ∑ j : Fin n, (x j).toNat = (x j₀).toNat :=
    Finset.sum_eq_single j₀ (fun j _ e => by rw [hz j e]; rfl) (fun e => absurd (Finset.mem_univ _) e)
  apply BitVec.eq_of_toNat_eq
  rw [StableHlo.Predicate.toNat_fold_addi _ _ (by rw [hs]; exact (x j₀).isLt), hs]

/-- A sum of widened bits counts those set. -/
theorem fold_count {n : ℕ} (hn : n < 2 ^ 32) (x : Fin n → BitVec 1) (Q : ℕ → Prop) [DecidablePred Q] (hQ : ∀ j : Fin n, x j = 1#1 ↔ Q j.val) :
    Finset.univ.fold IntOp.addi 0#32 (fun j => (x j).setWidth 32) = BitVec.ofNat 32 (Nat.count Q n) := by
  have hs : ∑ j : Fin n, ((x j).setWidth 32).toNat = Nat.count Q n := by
    rw [← Routing.card_filter_fin n Q, Finset.card_filter]
    refine Finset.sum_congr rfl fun j _ => ?_
    refine (StableHlo.Predicate.toNat_setWidth_bit _).trans ?_
    simp only [hQ j]
  have hc : Nat.count Q n < 2 ^ 32 := lt_of_le_of_lt (Nat.count_le Q) hn
  apply BitVec.eq_of_toNat_eq
  rw [StableHlo.Predicate.toNat_fold_addi _ _ (by rw [hs]; exact hc), hs, BitVec.toNat_ofNat, Nat.mod_eq_of_lt hc]

/-- The sum of the ones of a property below a bound counts it. -/
theorem sum_ind (Q : ℕ → Prop) [DecidablePred Q] (m : ℕ) : ((List.range m).map fun q => if Q q then 1 else 0).sum = Nat.count Q m := by
  induction m with
  | zero => rfl
  | succ m ih => rw [List.sum_range_succ, ih, Nat.count_succ]

/-- The windows of `1 × (w + 1)` over an `a × (w + 1)` mask padded in front by `w` columns of zeros: each holds the number of ones up to its column. -/
theorem running {a w : ℕ} (x : IVec ⟨2, ![a, w + 1]⟩ 32) (init : IVec ⟨0, ![]⟩ 32) (h0 : init ix0 = 0#32)
    (h : (⟨2, ![a, w + 1]⟩ : Shape).ReduceWindows (![1, w + 1] : Fin 2 → Nat) ![1, 1] ![0, w] ![0, 0] ⟨2, ![a, w + 1]⟩)
    (hu : 0 < (⟨0, ![]⟩ : Shape).numel) (i : Fin a) (j : Fin (w + 1)) (Q : ℕ → Prop) [DecidablePred Q]
    (hQ : ∀ q : Fin (w + 1), x (ix2 i q) = BitVec.ofNat 32 (if Q q.val then 1 else 0)) :
    Host.reduceWindow IntOp.addi ![1, w + 1] ![1, 1] ![0, w] ![0, 0] x init h hu (ix2 i j) = BitVec.ofNat 32 (Nat.count Q (j.val + 1)) := by
  have hv : init (Shape.Idx.first hu) = BitVec.ofNat 32 0 := (congrArg init (funext fun d => d.elim0)).trans h0
  have hj := j.isLt
  have hi := i.isLt
  unfold Host.reduceWindow
  refine (Routing.foldl_addi_ofNat _ _ (fun n => if w ≤ j.val + n.val then (if Q (j.val + n.val - w) then 1 else 0) else 0) (fun n _ => ?_) _ 0 hv).trans ?_
  · have e0 : ((Routing.shape2 1 (w + 1)).rowMajor.symm n 0).val = 0 := by rw [Routing.symm2]; rfl
    have e1 : ((Routing.shape2 1 (w + 1)).rowMajor.symm n 1).val = n.val := by rw [Routing.symm2]; rfl
    have hn : n.val < w + 1 := (n.cast (Routing.numel2 (w + 1))).isLt
    dsimp only
    split
    · next hin =>
      have h1 := hin 1
      change w ≤ j.val * 1 + ((Routing.shape2 1 (w + 1)).rowMajor.symm n 1).val
        ∧ j.val * 1 + ((Routing.shape2 1 (w + 1)).rowMajor.symm n 1).val - w < w + 1 at h1
      rw [e1] at h1
      rw [if_pos (by omega)]
      refine (congrArg x (funext fun d => Fin.ext ?_)).trans (hQ ⟨j.val + n.val - w, by omega⟩)
      match d with
      | ⟨0, _⟩ =>
        show i.val * 1 + ((Routing.shape2 1 (w + 1)).rowMajor.symm n 0).val - 0 = i.val
        rw [e0]; omega
      | ⟨1, _⟩ =>
        show j.val * 1 + ((Routing.shape2 1 (w + 1)).rowMajor.symm n 1).val - w = j.val + n.val - w
        rw [e1, Nat.mul_one]
    · next hin =>
      refine hv.trans ?_
      rw [if_neg fun hle => hin fun d => ?_]
      match d with
      | ⟨0, _⟩ =>
        show 0 ≤ i.val * 1 + ((Routing.shape2 1 (w + 1)).rowMajor.symm n 0).val ∧ i.val * 1 + ((Routing.shape2 1 (w + 1)).rowMajor.symm n 0).val - 0 < a
        rw [e0]; omega
      | ⟨1, _⟩ =>
        show w ≤ j.val * 1 + ((Routing.shape2 1 (w + 1)).rowMajor.symm n 1).val
          ∧ j.val * 1 + ((Routing.shape2 1 (w + 1)).rowMajor.symm n 1).val - w < w + 1
        rw [e1]; omega
  · rw [Nat.zero_add, Routing.map_finRange_val _ (fun q => if w ≤ j.val + q then (if Q (j.val + q - w) then 1 else 0) else 0), ← sum_ind Q]
    exact congrArg (BitVec.ofNat 32) ((congrArg (fun M => ((List.range M).map fun q => if w ≤ j.val + q then (if Q (j.val + q - w) then 1 else 0) else 0).sum)
      (Routing.numel2 (w + 1))).trans (Routing.sum_window (fun q => if Q q then 1 else 0) w j.val (by omega)))

end Cert.Lookup
-- ==== Proof.Plan.lean ====
/- The host's arrays at an index: which indices a device is asked for, in which order. -/
module

public import proofs.«01_k».proof.Proof.Reads

@[expose] public section

noncomputable section

namespace Cert.Lookup

open Cert.KernelIdeal Cert.KernelIdeal.Facts₀
open Idealize.ShloMosaic

/-- The index at place `j` of chunk `t`. -/
def at_ (idx : IVec S1024 32) (t : Fin 8) (j : Fin 128) : BitVec 32 := idx (ix1 ⟨t.val * 128 + j.val, by omega⟩)

/-- Which device the row of the host's sixteen is about, and which chunk. -/
def who (c : Dev nD) (a : Fin 16) : Fin 8 := if h : a.val < 8 then c else ⟨a.val - 8, by omega⟩
def chk (c : Dev nD) (a : Fin 16) : Fin 8 := if h : a.val < 8 then ⟨a.val, h⟩ else slot c

theorem start0 (c : Dev nD) (h : S1x128.rank = S8x128.rank) (i : S_.Idx) :
    Host.clampedStart S8x128 S1x128 h (fun k => (((![chunkW c, only 0#32] : Fin 2 → IVec S_ 32) k) i).toInt) 0 = (slot c).val := by
  have e : ∀ s : Fin 8, (min (max (BitVec.ofNat 32 s.val).toInt 0) (7 : ℤ)).toNat = s.val := by decide
  exact e (slot c)
theorem start1 (c : Dev nD) (h : S1x128.rank = S8x128.rank) (i : S_.Idx) :
    Host.clampedStart S8x128 S1x128 h (fun k => (((![chunkW c, only 0#32] : Fin 2 → IVec S_ 32) k) i).toInt) 1 = 0 := rfl

theorem rowW_apply (idx : IVec S1024 32) (c : Dev nD) (j : Fin 128) :
    rowW idx (chunkW c) (only 0#32) (ix2 0 j) = at_ idx (slot c) j := by
  unfold rowW
  pointwise
  refine congrArg idx (congrArg ix1 (Fin.ext ?_))
  dsimp only
  rw [start0, start1, Nat.zero_add]

theorem loc_apply (idx : IVec S1024 32) (c : Dev nD) (a : Fin 16) (j : Fin 128) :
    loc idx c (ix2 a j) = at_ idx (chk c a) j - BitVec.ofNat 32 (who c a).val * 4096#32 := by
  unfold loc locW
  pointwise
  by_cases h : a.val < 8
  · rw [dif_pos h, who, chk, dif_pos h, dif_pos h]; rfl
  · rw [dif_neg h, who, chk, dif_neg h, dif_neg h, rowW_apply]; rfl

/-! ## Ownership -/

theorem away (w : BitVec 32) (s : Fin 8) (hw : w.toNat < 32768) :
    (w - BitVec.ofNat 32 s.val * 4096#32).toInt = (w.toNat : ℤ) - 4096 * s.val := by
  have hs := s.isLt
  rw [BitVec.toInt_eq_toNat_cond, BitVec.toNat_sub, BitVec.toNat_mul, BitVec.toNat_ofNat, BitVec.toNat_ofNat]
  split <;> omega

theorem within (w : BitVec 32) (s : Fin 8) (hw : w.toNat < 32768) :
    IntOp.andi (IntOp.cmpi .sge (w - BitVec.ofNat 32 s.val * 4096#32) 0#32) (IntOp.cmpi .slt (w - BitVec.ofNat 32 s.val * 4096#32) 4096#32) = 1#1
      ↔ w.toNat / 4096 = s.val := by
  have e := away w s hw
  generalize w - BitVec.ofNat 32 s.val * 4096#32 = v at e
  have h1 : IntOp.cmpi .sge v 0#32 = BitVec.ofBool (decide (0 ≤ v.toInt)) := rfl
  have h2 : IntOp.cmpi .slt v 4096#32 = BitVec.ofBool (decide (v.toInt < 4096)) := rfl
  rw [h1, h2]
  by_cases a1 : 0 ≤ v.toInt
  · by_cases a2 : v.toInt < 4096
    · rw [decide_eq_true a1, decide_eq_true a2]
      exact iff_of_true rfl (by omega)
    · rw [decide_eq_true a1, decide_eq_false a2]
      exact iff_of_false (by decide) (by omega)
  · rw [decide_eq_false a1]
    refine iff_of_false ?_ (by omega)
    by_cases a2 : v.toInt < 4096
    · rw [decide_eq_true a2]; decide
    · rw [decide_eq_false a2]; decide

/-- Place `n` of chunk `t` names a row of device `s`. -/
def P (idx : IVec S1024 32) (s t : Fin 8) (n : ℕ) : Prop := ∃ h : n < 128, (at_ idx t ⟨n, h⟩).toNat / 4096 = s.val
instance (idx : IVec S1024 32) (s t : Fin 8) : DecidablePred (P idx s t) := fun n => inferInstanceAs (Decidable (∃ h : n < 128, _))

/-- What the precondition says of the indices. -/
structure Fits (idx : IVec S1024 32) : Prop where
  lt : ∀ t j, (at_ idx t j).toNat < 32768
  le : ∀ s t, Nat.count (P idx s t) 128 ≤ 40

variable {idx : IVec S1024 32} (hf : Fits idx) (c : Dev nD) (a : Fin 16)
include hf

theorem own_iff (j : Fin 128) : own idx c (ix2 a j) = 1#1 ↔ P idx (who c a) (chk c a) j.val := by
  unfold own ownW2
  pointwise
  rw [loc_apply, within _ _ (hf.lt _ _)]
  exact ⟨fun h => ⟨j.isLt, h⟩, fun ⟨_, h⟩ => h⟩

theorem cum_eq (j : Fin 128) : cumW (own idx c) (ix2 a j) = BitVec.ofNat 32 (Nat.count (P idx (who c a) (chk c a)) (j.val + 1)) := by
  refine running (w := 127) _ _ rfl _ _ a j _ fun q => ?_
  show (own idx c (ix2 a q)).setWidth 32 = _
  have h := own_iff hf c a q
  by_cases hp : P idx (who c a) (chk c a) q.val
  · rw [if_pos hp, h.2 hp]; rfl
  · rw [if_neg hp, (BitVec.eq_zero_or_eq_one (own idx c (ix2 a q))).resolve_right (fun e => hp (h.1 e))]; rfl

theorem sel_iff (k : Fin 40) (j : Fin 128) : sel idx c (ix3 a k j) = 1#1
    ↔ P idx (who c a) (chk c a) j.val ∧ Nat.count (P idx (who c a) (chk c a)) j.val = k.val := by
  unfold sel selW
  pointwise
  rw [cum_eq hf]
  have h := own_iff hf c a j
  by_cases hp : P idx (who c a) (chk c a) j.val
  · have hk := k.isLt
    have hc : Nat.count (P idx (who c a) (chk c a)) j.val < 2 ^ 32 := lt_of_le_of_lt (Nat.count_le _) (by omega)
    rw [h.2 hp, Nat.count_succ, if_pos hp]
    have e : IntOp.subi (BitVec.ofNat 32 (Nat.count (P idx (who c a) (chk c a)) j.val + 1)) 1#32
        = BitVec.ofNat 32 (Nat.count (P idx (who c a) (chk c a)) j.val) := by
      rw [BitVec.ofNat_add]; exact add_sub_cancel_right _ _
    rw [e]
    by_cases hk : Nat.count (P idx (who c a) (chk c a)) j.val = k.val
    · rw [hk]; exact iff_of_true (by simp [IntOp.cmpi, IntOp.andi]) ⟨hp, rfl⟩
    · refine iff_of_false ?_ (fun e => hk e.2)
      have hne : BitVec.ofNat 32 (Nat.count (P idx (who c a) (chk c a)) j.val) ≠ BitVec.ofNat 32 k.val := fun e => hk (by
        have := congrArg BitVec.toNat e
        rw [BitVec.toNat_ofNat, BitVec.toNat_ofNat] at this
        omega)
      have h2 : IntOp.cmpi .eq (BitVec.ofNat 32 (Nat.count (P idx (who c a) (chk c a)) j.val)) (BitVec.ofNat 32 k.val) = 0#1 := by
        simp only [IntOp.cmpi, beq_eq_false_iff_ne.2 hne]; rfl
      rw [h2]; decide
  · rw [(BitVec.eq_zero_or_eq_one (own idx c (ix2 a j))).resolve_right (fun e => hp (h.1 e))]
    refine iff_of_false ?_ (fun e => hp e.1)
    simp [IntOp.andi]

theorem sel_zero {k : Fin 40} {j : Fin 128} (h : ¬ (P idx (who c a) (chk c a) j.val ∧ Nat.count (P idx (who c a) (chk c a)) j.val = k.val)) :
    sel idx c (ix3 a k j) = 0#1 :=
  (BitVec.eq_zero_or_eq_one _).resolve_right fun e => h ((sel_iff hf c a k j).1 e)

/-- The number picked for the `k`-th of the indices asked for is the one at its place. -/
theorem comb_eq_at (k : Fin 40) (j : Fin 128) (hp : P idx (who c a) (chk c a) j.val) (hk : Nat.count (P idx (who c a) (chk c a)) j.val = k.val) :
    comb idx c (ix2 a k) = mulW (loc idx c) (own idx c) (ix2 a j) := by
  unfold comb combW
  rw [sum3, fold_one _ j fun j' hj => ?_]
  · pointwise
    rw [(sel_iff hf c a k j).2 ⟨hp, hk⟩]
    exact one_mul _
  · pointwise
    rw [sel_zero hf c a fun e => hj (Fin.ext (Nat.count_injective e.1 hp (e.2.trans hk.symm)))]
    exact zero_mul _

theorem valid_iff (k : Fin 40) : valid idx c (ix2 a k) = 1#1 ↔ k.val < Nat.count (P idx (who c a) (chk c a)) 128 := by
  unfold valid validW
  pointwise
  rw [fold_count (by decide) (fun x => own idx c (ix2 a x)) (P idx (who c a) (chk c a)) (fun j => own_iff hf c a j)]
  have hk := k.isLt
  have hc : Nat.count (P idx (who c a) (chk c a)) 128 ≤ 128 := Nat.count_le _
  rw [StableHlo.Predicate.slt_iff_toNat (by rw [BitVec.toNat_ofNat]; omega) (by rw [BitVec.toNat_ofNat]; omega), BitVec.toNat_ofNat, BitVec.toNat_ofNat]
  omega

theorem valid_eq_ite (k : Fin 40) : valid idx c (ix2 a k) = if k.val < Nat.count (P idx (who c a) (chk c a)) 128 then 1#1 else 0#1 := by
  have h := valid_iff hf c a k
  by_cases hk : k.val < Nat.count (P idx (who c a) (chk c a)) 128
  · rw [if_pos hk, h.2 hk]
  · rw [if_neg hk]; exact (BitVec.eq_zero_or_eq_one _).resolve_right fun e => hk (h.1 e)

omit hf in
/-- Below the count there is one with that number. -/
theorem exists_rank (Q : ℕ → Prop) [DecidablePred Q] (k : ℕ) : ∀ m, k < Nat.count Q m → ∃ j, j < m ∧ Q j ∧ Nat.count Q j = k
  | 0, h => absurd h (by simp)
  | m + 1, h => by
    rw [Nat.count_succ] at h
    by_cases hk : k < Nat.count Q m
    · obtain ⟨j, h1, h2⟩ := exists_rank Q k m hk
      exact ⟨j, by omega, h2⟩
    · by_cases hq : Q m
      · rw [if_pos hq] at h
        exact ⟨m, by omega, hq, by omega⟩
      · rw [if_neg hq] at h; omega

/-! ## The three arrays the kernel is given -/

omit hf in
theorem who_lo (t : Fin 8) : who c ⟨t.val, by omega⟩ = c := by rw [who, dif_pos t.isLt]
omit hf in
theorem chk_lo (t : Fin 8) : chk c ⟨t.val, by omega⟩ = t := by rw [chk, dif_pos t.isLt]
omit hf in
theorem who_hi (s : Fin 8) : who c ⟨8 + s.val, by omega⟩ = s := by
  rw [who, dif_neg (by simp)]; exact Fin.ext (by simp)
omit hf in
theorem chk_hi (s : Fin 8) : chk c ⟨8 + s.val, by omega⟩ = slot c := by rw [chk, dif_neg (by simp)]

theorem comb_lo (t : Fin 8) (k : Fin 40) (j : Fin 128) (hp : P idx c t j.val) (hk : Nat.count (P idx c t) j.val = k.val) :
    comb idx c (ix2 ⟨t.val, by omega⟩ k) = BitVec.ofNat 32 ((at_ idx t j).toNat - 4096 * c.val) := by
  rw [comb_eq_at hf c _ k j (by rw [who_lo, chk_lo]; exact hp) (by rw [who_lo, chk_lo]; exact hk)]
  have ho := (own_iff hf c ⟨t.val, by omega⟩ j).2 (by rw [who_lo, chk_lo]; exact hp)
  unfold mulW
  pointwise
  show Scalar.select (own idx c (ix2 (⟨t.val, by omega⟩ : Fin 16) j)) (loc idx c (ix2 (⟨t.val, by omega⟩ : Fin 16) j)) 0#32 = _
  rw [ho, loc_apply, chk_lo, who_lo]
  obtain ⟨_, h⟩ := hp
  have h' : (at_ idx t j).toNat / 4096 = c.val := h
  have hw := hf.lt t j
  have hc := c.isLt
  apply BitVec.eq_of_toNat_eq
  show (at_ idx t j - BitVec.ofNat 32 c.val * 4096#32).toNat = _
  rw [BitVec.toNat_sub, BitVec.toNat_mul, BitVec.toNat_ofNat, BitVec.toNat_ofNat, BitVec.toNat_ofNat]
  omega

theorem pos_eq (s : Fin 8) (k : Fin 40) (j : Fin 128) (hp : P idx s (slot c) j.val) (hk : Nat.count (P idx s (slot c)) j.val = k.val) :
    posV (comb idx c) (ix2 s k) = BitVec.ofNat 32 j.val := by
  unfold posV
  pointwise
  rw [comb_eq_at hf c _ k j (by rw [who_hi, chk_hi]; exact hp) (by rw [who_hi, chk_hi]; exact hk)]
  unfold mulW
  pointwise

omit hf in
theorem bit_one : FloatOps.uitofp (F := Ideal) .bf16 (1#1) = (1 : EReal) := by
  show (((1#1 : BitVec 1).toNat : ℝ) : EReal) = 1
  simp
omit hf in
theorem bit_zero : FloatOps.uitofp (F := Ideal) .bf16 (0#1) = (0 : EReal) := by
  show (((0#1 : BitVec 1).toNat : ℝ) : EReal) = 0
  simp

theorem val_eq (s : Fin 8) (k : Fin 40) :
    valV (F := Ideal) (valid idx c) (ix2 s k) = if k.val < Nat.count (P idx s (slot c)) 128 then 1 else 0 := by
  unfold valV
  pointwise
  rw [valid_eq_ite hf, who_hi, chk_hi]
  split
  · exact bit_one
  · exact bit_zero

omit hf in
theorem ix2_same {n m : ℕ} (i : Fin n) (j : Fin m) : ValueIdx.ix2 i j = ix2 i j := by
  funext d
  match d with
  | ⟨0, _⟩ => rfl
  | ⟨1, _⟩ => rfl

omit hf in
theorem takeW_eq (x : IVec S16x40 32) (t : Fin 8) (k : Fin 40) (r : Fin 4096) (hx : x (ix2 ⟨t.val, by omega⟩ k) = BitVec.ofNat 32 r.val) :
    takeW x (ix2 ⟨t.val * 40 + k.val, by omega⟩ 0) = BitVec.ofNat 32 r.val := by
  unfold takeW
  pointwise
  show Scalar.select (IntOp.cmpi .slt (x (ix2 (⟨t.val, by omega⟩ : Fin 16) k)) 0#32) _ (x (ix2 (⟨t.val, by omega⟩ : Fin 16) k)) = _
  rw [hx]
  have hr := r.isLt
  have e : IntOp.cmpi .slt (BitVec.ofNat 32 r.val) 0#32 ≠ 1#1 := fun h => by
    rw [StableHlo.Predicate.slt_iff_toNat (by rw [BitVec.toNat_ofNat]; omega) (by decide)] at h
    exact absurd h (by simp)
  rw [(BitVec.eq_zero_or_eq_one _).resolve_right e]
  rfl

theorem rows_eq (tab : FVec Ideal S4096x512 .bf16) (t : Fin 8) (k : Fin 40) (d : Fin 512) (j : Fin 128) (hp : P idx c t j.val)
    (hk : Nat.count (P idx c t) j.val = k.val) (r : Fin 4096) (hr : (at_ idx t j).toNat = 4096 * c.val + r.val) :
    rowsV tab (comb idx c) (valid idx c) (ix2 ⟨t.val * 40 + k.val, by omega⟩ d) = tab (ix2 r d) := by
  have hv : valid idx c (ix2 (⟨t.val, by omega⟩ : Fin 16) k) = 1#1 := by
    rw [valid_eq_ite hf, who_lo, chk_lo, if_pos]
    rw [← hk]; exact Nat.count_strict_mono hp j.isLt
  have hg : takeW (comb idx c) (ix2 (⟨t.val * 40 + k.val, by omega⟩ : Fin 320) 0) = BitVec.ofNat 32 r.val :=
    takeW_eq _ t k r ((comb_lo hf c t k j hp hk).trans (congrArg (BitVec.ofNat 32) (by omega)))
  have h2 : Host.gather gather_S4096x512_S320x1_S320x512_1_0_n_n_0_1_1512 tab (takeW (comb idx c))
      (ix2 (⟨t.val * 40 + k.val, by omega⟩ : Fin 320) d) = tab (ix2 r d) := by
    rw [← ix2_same, ← ix2_same]
    exact Routing.gather_row (nb := 4096) (B := 512) (n := 320) _ rfl rfl rfl rfl rfl tab _ _ _ _ (by rw [ix2_same]; exact hg) (by decide)
  unfold rowsV
  pointwise
  rw [h2]
  refine (congrArg (fun b => (tab (ix2 r d) : EReal) * FloatOps.uitofp (F := Ideal) .bf16 b) hv).trans ?_
  rw [bit_one]
  exact mul_one _

end Cert.Lookup
-- ==== Proof.Values.lean ====
/- What the kernel adds up, read at an index over the extended reals. -/
module

public import proofs.«01_k».proof.Proof.Plan

@[expose] public section

noncomputable section

namespace Cert.Lookup

open Cert.KernelIdeal Cert.KernelIdeal.Facts₀
open Idealize.ShloMosaic

section
variable {F : FTy → Type} [FloatOps F]

theorem unsq (h : S40x512.numel = S1x40x512.numel) (k : Fin 40) (d : Fin 512) :
    Shape.reshapeEquiv h (ix2 k d : S40x512.Idx) = (ix3 0 k d : S1x40x512.Idx) := by
  pointwise

theorem gotten_apply (A : Input F) (r : Fin 7) (c : Dev nD) (k : Fin 40) (d : Fin 512) :
    gotten A r c (ix3 0 k d) = A.rows (peer r c) (ix2 ⟨(slot c).val * 40 + k.val, by omega⟩ d) := by
  show landV A r c ((landRect r).emb (ix3 0 k d)) = _
  have e : (landRect r).emb (ix3 0 k d) = (landM r).view.emb (ix2 k d) := by
    exact congrArg (landRect r).emb (unsq _ k d).symm
  rw [e, landV, View.write_emb_of_mem _ _ (Finset.mem_univ _)]
  show A.rows (peer r c) ((sendRect r (peer r c)).emb (ix2 k d)) = _
  refine congrArg _ (funext fun a => Fin.ext ?_)
  rw [Rect.emb_apply]
  show k0_off1 (peer r c) (jw r) a + 1 * _ = _
  rw [send_off, peer_peer]
  match a with
  | ⟨0, _⟩ => show (slot c).val * 40 + 1 * k.val = (slot c).val * 40 + k.val; omega
  | ⟨1, _⟩ => show 0 + 1 * d.val = d.val; omega

theorem kept_apply (A : Input F) (c : Dev nD) (k : Fin 40) (d : Fin 512) :
    kept A c (ix2 k d) = A.rows c (ix2 ⟨(slot c).val * 40 + k.val, by omega⟩ d) := by
  show A.rows c ((ownRect c).emb (ix2 k d)) = _
  refine congrArg _ (funext fun a => Fin.ext ?_)
  rw [Rect.emb_apply]
  show k0_off2 c a + 1 * _ = _
  rw [own_off]
  match a with
  | ⟨0, _⟩ => show (slot c).val * 40 + 1 * k.val = (slot c).val * 40 + k.val; omega
  | ⟨1, _⟩ => show 0 + 1 * d.val = d.val; omega
end

theorem eq_word (a b : BitVec 32) : BitVec.setWidth 32 (IntOp.cmpi .eq a b) = if a = b then 1#32 else 0#32 := by
  by_cases h : a = b
  · rw [if_pos h, h]; simp [IntOp.cmpi]
  · rw [if_neg h]; simp [IntOp.cmpi, beq_eq_false_iff_ne.2 h]
theorem eq_float (a b : BitVec 32) : FloatOps.sitofp (F := Ideal) .f32 (BitVec.setWidth 32 (IntOp.cmpi .eq a b)) = if a = b then (1 : EReal) else 0 := by
  rw [eq_word]
  show (((if a = b then 1#32 else 0#32 : BitVec 32).toInt : ℝ) : EReal) = _
  split <;> simp
theorem small_inj : ∀ x s : Fin 8, BitVec.ofNat 32 x.val = BitVec.ofNat 32 s.val → x = s := by decide

theorem place_apply (s : Fin 8) (pos : IVec S8x40 32) (val : FVec Ideal S8x40 .bf16) (i : Fin 128) (k : Fin 40) :
    place (BitVec.ofNat 32 s.val) pos val (ix2 i k)
      = (if BitVec.ofNat 32 i.val = pos (ix2 s k) then (1 : EReal) else 0) * val (ix2 s k) := by
  unfold place
  pointwise
  have e1 : Finset.univ.fold IntOp.addi 0#32 (fun x : Fin 8 => IntOp.muli (pos (ix2 x k))
      (BitVec.setWidth 32 (IntOp.cmpi .eq (BitVec.ofNat 32 x.val) (BitVec.ofNat 32 s.val)))) = pos (ix2 s k) := by
    rw [fold_one _ s fun x hx => ?_]
    · rw [eq_word, if_pos rfl]; exact mul_one _
    · rw [eq_word, if_neg fun e => hx (small_inj x s e)]; exact mul_zero _
  have e2 : ∑ x : Fin 8, val (ix2 x k) * FloatOps.sitofp (F := Ideal) .f32
      (BitVec.setWidth 32 (IntOp.cmpi .eq (BitVec.ofNat 32 x.val) (BitVec.ofNat 32 s.val))) = (val (ix2 s k) : EReal) := by
    rw [Finset.sum_eq_single s (fun x _ hx => ?_) (fun h => absurd (Finset.mem_univ _) h)]
    · rw [eq_float, if_pos rfl]; exact mul_one _
    · rw [eq_float, if_neg fun e => hx (small_inj x s e)]; exact mul_zero _
  rw [e1, e2, eq_float]

theorem placed_apply (w : BitVec 32) (pos : IVec S8x40 32) (val : FVec Ideal S8x40 .bf16) (y : FVec Ideal S40x512 .bf16) (i : Fin 128) (d : Fin 512) :
    placed w pos val y (ix2 i d) = ∑ k : Fin 40, (place w pos val (ix2 i k) : EReal) * y (ix2 k d) := by
  unfold placed
  pointwise

end Cert.Lookup
-- ==== Proof.Total.lean ====
/- The kernel's result is the rows the indices name. -/
module

public import proofs.«01_k».proof.Proof.Values

@[expose] public section

noncomputable section

namespace Cert.Lookup

open Cert.KernelIdeal Cert.KernelIdeal.Facts₀
open Idealize.ShloMosaic

/-- What the host gives the kernel, for given indices and parts of the table. -/
def given (idx : IVec S1024 32) (tab : Dev nD → FVec Ideal S4096x512 .bf16) : Input Ideal where
  rows c := rowsV (tab c) (comb idx c) (valid idx c)
  pos c := posV (comb idx c)
  val c := valV (F := Ideal) (valid idx c)

variable (idx : IVec S1024 32) (tab : Dev nD → FVec Ideal S4096x512 .bf16)

/-- What device `s` adds to row `i`, column `d` of device `c`'s chunk. -/
def share (c : Dev nD) (i : Fin 128) (d : Fin 512) (s : Fin 8) : EReal :=
  ∑ k : Fin 40, (place (F := Ideal) (BitVec.ofNat 32 s.val) (posV (comb idx c)) (valV (valid idx c)) (ix2 i k) : EReal)
    * rowsV (tab s) (comb idx s) (valid idx s) (ix2 ⟨(slot c).val * 40 + k.val, by omega⟩ d)

theorem posC_eq (x : Vec Ideal S8x40 .i32) : posC (F := Ideal) x = x := by
  funext j; unfold posC; pointwise
theorem valC_eq (x : Vec Ideal S8x40 .bf16) : valC x = x := by
  funext j; unfold valC; pointwise

theorem given_pos (c : Dev nD) : (given idx tab).pos c = posV (comb idx c) := by dsimp only [given]
theorem given_val (c : Dev nD) : (given idx tab).val c = valV (F := Ideal) (valid idx c) := by dsimp only [given]

theorem acc0_apply (c : Dev nD) (i : Fin 128) (d : Fin 512) :
    acc0 c ((given idx tab).pos c) ((given idx tab).val c) (kept (given idx tab) c) (ix2 i d) = share idx tab c i d c := by
  unfold acc0 share
  rw [placed_apply, ownW_eq, posC_eq, valC_eq, given_pos, given_val]
  refine Finset.sum_congr rfl fun k _ => ?_
  have e : shapeCast S40x512 (kept (given idx tab) c) Gen.facts.shapeCasts_S40x512_S40x512 (ix2 k d)
      = rowsV (tab c) (comb idx c) (valid idx c) (ix2 ⟨(slot c).val * 40 + k.val, by omega⟩ d) := by
    refine Eq.trans ?_ (kept_apply (given idx tab) c k d)
    pointwise
  rw [e]

theorem accS_apply (r : Fin 7) (c : Dev nD) (acc : FVec Ideal S128x512 .f32) (i : Fin 128) (d : Fin 512) :
    accS r c ((given idx tab).pos c) ((given idx tab).val c) acc (gotten (given idx tab) r c) (ix2 i d)
      = (acc (ix2 i d) : EReal) + share idx tab c i d (peer r c) := by
  unfold accS share
  show (acc (ix2 i d) : EReal) + placed _ _ _ _ (ix2 i d) = _
  rw [placed_apply, peerW_eq, posC_eq, valC_eq, given_pos, given_val]
  refine congrArg (_ + ·) (Finset.sum_congr rfl fun k _ => ?_)
  have e : shapeCast S40x512 (gotten (given idx tab) r c) Gen.facts.shapeCasts_S1x40x512_S40x512 (ix2 k d)
      = rowsV (tab (peer r c)) (comb idx (peer r c)) (valid idx (peer r c)) (ix2 ⟨(slot c).val * 40 + k.val, by omega⟩ d) := by
    refine Eq.trans ?_ (gotten_apply (given idx tab) r c k d)
    pointwise
  rw [e]

theorem accL_apply (c : Dev nD) (i : Fin 128) (d : Fin 512) : ∀ (l : List (Fin 7)) (acc : FVec Ideal S128x512 .f32),
    accL (given idx tab) c l acc (ix2 i d) = (acc (ix2 i d) : EReal) + (l.map fun r => share idx tab c i d (peer r c)).sum
  | [], acc => (add_zero _).symm
  | r :: l, acc => by
    rw [accL, accL_apply c i d l, accS_apply, List.map_cons, List.sum_cons, add_assoc]

theorem chunk_apply (c : Dev nD) (i : Fin 128) (d : Fin 512) :
    chunkV (given idx tab) c (ix2 i d) = share idx tab c i d c + ∑ r : Fin 7, share idx tab c i d (peer r c) := by
  show accL (given idx tab) c order (acc0 c ((given idx tab).pos c) ((given idx tab).val c) (kept (given idx tab) c)) (ix2 i d) = _
  rw [accL_apply, acc0_apply]
  refine congrArg (_ + ·) ?_
  have h : order.Perm (List.finRange 7) := by decide
  rw [← List.sum_ofFn, List.ofFn_eq_map]
  exact (h.map _).sum_eq

variable {idx} (hf : Fits idx)
include hf

/-- A device adds the row asked for if it holds it. -/
theorem share_hit (c : Dev nD) (i : Fin 128) (d : Fin 512) (s : Fin 8) (r : Fin 4096) (hr : (at_ idx (slot c) i).toNat = 4096 * s.val + r.val) :
    share idx tab c i d s = tab s (ix2 r d) := by
  have hp : P idx s (slot c) i.val := ⟨i.isLt, by show (at_ idx (slot c) i).toNat / 4096 = _; omega⟩
  have hc : Nat.count (P idx s (slot c)) i.val < Nat.count (P idx s (slot c)) 128 := Nat.count_strict_mono hp i.isLt
  have h40 := hf.le s (slot c)
  unfold share
  rw [Finset.sum_eq_single (⟨Nat.count (P idx s (slot c)) i.val, by omega⟩ : Fin 40) (fun k _ hk => ?_) (fun h => absurd (Finset.mem_univ _) h)]
  · rw [place_apply, pos_eq hf c s _ i hp rfl, val_eq hf, if_pos rfl, if_pos hc, rows_eq hf s (tab s) (slot c) _ d i hp rfl r hr, one_mul, one_mul]
  · rw [place_apply]
    by_cases hk' : k.val < Nat.count (P idx s (slot c)) 128
    · obtain ⟨j, hj, hq, hjk⟩ := exists_rank _ _ _ hk'
      rw [pos_eq hf c s k ⟨j, hj⟩ hq hjk, if_neg fun e => ?_, zero_mul, zero_mul]
      have := congrArg BitVec.toNat e
      rw [BitVec.toNat_ofNat, BitVec.toNat_ofNat] at this
      have hi := i.isLt
      have e' : i.val = j := by simp only at this; omega
      exact hk (Fin.ext (by rw [← hjk, ← e']))
    · rw [val_eq hf, if_neg hk', mul_zero, zero_mul]

/-- A device that does not hold it adds nothing. -/
theorem share_miss (c : Dev nD) (i : Fin 128) (d : Fin 512) (s : Fin 8) (hs : (at_ idx (slot c) i).toNat / 4096 ≠ s.val) : share idx tab c i d s = 0 := by
  refine Finset.sum_eq_zero fun k _ => ?_
  rw [place_apply]
  by_cases hk' : k.val < Nat.count (P idx s (slot c)) 128
  · obtain ⟨j, hj, hq, hjk⟩ := exists_rank _ _ _ hk'
    rw [pos_eq hf c s k ⟨j, hj⟩ hq hjk, if_neg fun e => ?_, zero_mul, zero_mul]
    have := congrArg BitVec.toNat e
    rw [BitVec.toNat_ofNat, BitVec.toNat_ofNat] at this
    have hi := i.isLt
    have e' : i.val = j := by simp only at this; omega
    subst e'
    obtain ⟨_, h⟩ := hq
    exact hs h
  · rw [val_eq hf, if_neg hk', mul_zero, zero_mul]

theorem chunk_eq (c : Dev nD) (i : Fin 128) (d : Fin 512) (s : Fin 8) (r : Fin 4096) (hr : (at_ idx (slot c) i).toNat = 4096 * s.val + r.val) :
    chunkV (given idx tab) c (ix2 i d) = tab s (ix2 r d) := by
  have miss : ∀ s', s' ≠ s → share idx tab c i d s' = 0 := fun s' hs => share_miss tab hf c i d s' fun e => hs (Fin.ext (by omega))
  rw [chunk_apply]
  by_cases hs : s = c
  · subst hs
    rw [share_hit tab hf _ i d _ r hr, Finset.sum_eq_zero fun q _ => miss _ (peer_ne q _), add_zero]
  · obtain ⟨q, hq⟩ := exists_peer c s hs
    rw [miss c (Ne.symm hs), zero_add, Finset.sum_eq_single q (fun q' _ h => miss _ fun e => h (peer_inj c _ _ (e.trans hq)))
      (fun h => absurd (Finset.mem_univ _) h), ← hq, share_hit tab hf _ i d _ r hr]

/-- Where the parts of the table are the eight blocks of a whole one, the result's row `p` is the whole table's row number `idx p`. -/
theorem out_eq (whole : FVec Ideal ⟨2, ![32768, 512]⟩ .bf16)
    (hw : ∀ (s : Fin 8) (r : Fin 4096) (d : Fin 512), tab s (ix2 r d) = whole (ix2 ⟨4096 * s.val + r.val, by omega⟩ d))
    (p : Fin 1024) (d : Fin 512) (n : Fin 32768) (hn : idx (ix1 p) = BitVec.ofNat 32 n.val) :
    outV (given idx tab) (ix2 p d) = whole (ix2 n d) := by
  have hp := p.isLt
  have hn' := n.isLt
  have ht : (at_ idx (slot (owner ⟨p.val / 128, by omega⟩)) ⟨p.val % 128, by omega⟩).toNat = n.val := by
    rw [slot_owner, at_]
    have e : (⟨(p.val / 128) * 128 + p.val % 128, by omega⟩ : Fin 1024) = p := Fin.ext (by show p.val / 128 * 128 + p.val % 128 = p.val; omega)
    show (idx (ix1 (⟨(p.val / 128) * 128 + p.val % 128, by omega⟩ : Fin 1024))).toNat = _
    rw [e, hn, BitVec.toNat_ofNat]; omega
  have h := chunk_eq tab hf (owner ⟨p.val / 128, by omega⟩) ⟨p.val % 128, by omega⟩ d ⟨n.val / 4096, by omega⟩ ⟨n.val % 4096, by omega⟩
    (by rw [ht]; show n.val = 4096 * (n.val / 4096) + n.val % 4096; omega)
  refine Eq.trans ?_ (h.trans ((hw _ _ _).trans ?_))
  · unfold outV
    refine congrArg (chunkV (given idx tab) _) (funext fun a => ?_)
    match a with
    | 0 => rfl
    | 1 => rfl
  · refine congrArg whole (congrArg (fun x => ix2 x d) (Fin.ext ?_))
    show 4096 * (n.val / 4096) + n.val % 4096 = n.val
    omega

end Cert.Lookup
-- ==== Proof.Same.lean ====
/- The precondition read at the indices, the reference's result, and the two results compared. -/
module

public import Idealize.ShloMosaic.Lib.Layout
public import proofs.«01_k».proof.Pre_indices_fit_KernelIdeal
public import proofs.«01_k».proof.Pre_indices_fit_ReferenceIdeal
public import proofs.«01_k».proof.Proof.Gen.ReferenceIdeal
public import proofs.«01_k».proof.Proof.Gen.ReferenceIdeal.Run
public import proofs.«01_k».proof.Proof.Total

@[expose] public section

noncomputable section

namespace Cert.Lookup

open Cert.KernelIdeal Cert.KernelIdeal.Gen
open Idealize.ShloMosaic
open Idealize.ShloMosaic.TcCoe

instance pre_facts : Cert.Pre_indices_fit_KernelIdeal.Facts :=
  ⟨by decide, by decide, by decide, by decide, by decide, by decide, by decide, by decide, by decide, by decide, by decide⟩
instance pre_facts_reference : Cert.Pre_indices_fit_ReferenceIdeal.Facts :=
  ⟨by decide, by decide, by decide, by decide, by decide, by decide, by decide, by decide, by decide, by decide, by decide⟩

/-- Two signed comparisons, by the integers the words are. -/
theorem between (w a b : BitVec 32) :
    IntOp.andi (IntOp.cmpi .sge w a) (IntOp.cmpi .slt w b) = 1#1 ↔ a.toInt ≤ w.toInt ∧ w.toInt < b.toInt := by
  have h1 : IntOp.cmpi .sge w a = BitVec.ofBool (decide (a.toInt ≤ w.toInt)) := rfl
  have h2 : IntOp.cmpi .slt w b = BitVec.ofBool (decide (w.toInt < b.toInt)) := rfl
  rw [h1, h2]
  by_cases a1 : a.toInt ≤ w.toInt
  · by_cases a2 : w.toInt < b.toInt
    · rw [decide_eq_true a1, decide_eq_true a2]
      exact iff_of_true rfl ⟨a1, a2⟩
    · rw [decide_eq_true a1, decide_eq_false a2]
      exact iff_of_false (by decide) (fun e => a2 e.2)
  · rw [decide_eq_false a1]
    refine iff_of_false ?_ (fun e => a1 e.1)
    by_cases a2 : w.toInt < b.toInt
    · rw [decide_eq_true a2]; decide
    · rw [decide_eq_false a2]; decide

theorem lt_of_between (w : BitVec 32) (h : IntOp.andi (IntOp.cmpi .sge w 0#32) (IntOp.cmpi .slt w 32768#32) = 1#1) : w.toNat < 32768 := by
  obtain ⟨h1, h2⟩ := (between _ _ _).1 h
  have e1 : (0#32).toInt = 0 := rfl
  have e2 : (32768#32).toInt = 32768 := rfl
  rw [e1] at h1
  rw [e2] at h2
  rw [BitVec.toInt_eq_toNat_cond] at h1 h2
  have := w.isLt
  split at h1 <;> omega

theorem owned (w : BitVec 32) (s : Fin 8) (hw : w.toNat < 32768) :
    IntOp.andi (IntOp.cmpi .sge w (IntOp.muli (BitVec.ofNat 32 s.val) 4096#32))
        (IntOp.cmpi .slt w (IntOp.addi (IntOp.muli (BitVec.ofNat 32 s.val) 4096#32) 4096#32)) = 1#1 ↔ w.toNat / 4096 = s.val := by
  have e1 : ∀ s : Fin 8, (IntOp.muli (BitVec.ofNat 32 s.val) 4096#32).toInt = 4096 * s.val := by decide
  have e2 : ∀ s : Fin 8, (IntOp.addi (IntOp.muli (BitVec.ofNat 32 s.val) 4096#32) 4096#32).toInt = 4096 * s.val + 4096 := by decide
  rw [between, e1, e2, BitVec.toInt_eq_toNat_cond, if_pos (by omega)]
  omega

/-- The precondition, of the indices. -/
theorem fits (tab : FVec Ideal S4096x512 .bf16) (idx : IVec S1024 32)
    (h1 : (Cert.Pre_indices_fit_KernelIdeal.fn (F := Ideal) tab idx).1 = fun _ => 1#1)
    (h2 : (Cert.Pre_indices_fit_KernelIdeal.fn (F := Ideal) tab idx).2 = fun _ => 1#1) : Fits idx := by
  have hlt : ∀ t j, (at_ idx t j).toNat < 32768 := fun t j => by
    have h := congrFun h1 (ix1 (⟨t.val * 128 + j.val, by omega⟩ : Fin 1024))
    unfold Cert.Pre_indices_fit_KernelIdeal.fn Cert.Pre_indices_fit_KernelIdeal.fn_part1 at h
    pointwise at h
    exact lt_of_between _ h
  refine ⟨hlt, fun s t => ?_⟩
  have h := congrFun h2 (ix2 t s)
  unfold Cert.Pre_indices_fit_KernelIdeal.fn Cert.Pre_indices_fit_KernelIdeal.fn_part1 at h
  pointwise at h
  have hc : Nat.count (P idx s t) 128 ≤ 128 := Nat.count_le _
  have e := fold_count (n := 128) (by omega) (fun x => IntOp.andi
      (IntOp.cmpi .sge (at_ idx t x) (IntOp.muli (BitVec.ofNat 32 s.val) 4096#32))
      (IntOp.cmpi .slt (at_ idx t x) (IntOp.addi (IntOp.muli (BitVec.ofNat 32 s.val) 4096#32) 4096#32))) (P idx s t) (fun j => by
    rw [owned _ _ (hlt t j)]
    exact ⟨fun h => ⟨j.isLt, h⟩, fun ⟨_, h⟩ => h⟩)
  replace h := (congrArg (fun v => IntOp.cmpi .sle v 40#32) e).symm.trans h
  have e3 : (BitVec.ofNat 32 (Nat.count (P idx s t) 128)).toNat = Nat.count (P idx s t) 128 := by
    rw [BitVec.toNat_ofNat]; omega
  have h := (StableHlo.Predicate.sle_iff_toNat (by rw [e3]; omega) (by decide)).1 h
  rw [e3] at h
  exact h

theorem Fits.at {idx : IVec S1024 32} (hf : Fits idx) (p : Fin 1024) : (idx (ix1 p)).toNat < 32768 := by
  have h := hf.lt ⟨p.val / 128, by omega⟩ ⟨p.val % 128, by omega⟩
  unfold at_ at h
  have e : (⟨p.val / 128 * 128 + p.val % 128, by omega⟩ : Fin 1024) = p := Fin.ext (by dsimp only; omega)
  rwa [e] at h

/-- The reference's result, as its run leaves it. -/
def refV (whole : FVec Ideal ⟨2, ![32768, 512]⟩ .bf16) (idx : IVec S1024 32) : FVec Ideal ⟨2, ![1024, 512]⟩ .bf16 :=
  Host.gather Cert.ReferenceIdeal.gather_S32768x512_S1024x1_S1024x512_1_0_n_n_0_1_1512 whole
    (broadcastInDim Cert.ReferenceIdeal.S1024x1 ![0] Cert.ReferenceIdeal.Facts₀.bcast_S1024_S1024x1_0
      (select (cmpi .slt idx (broadcastInDim Cert.ReferenceIdeal.S1024 ![] Cert.ReferenceIdeal.Facts₀.bcast_S_S1024 (constantI Cert.ReferenceIdeal.S_ 32 0#32)))
        (addi idx (broadcastInDim Cert.ReferenceIdeal.S1024 ![] Cert.ReferenceIdeal.Facts₀.bcast_S_S1024 (constantI Cert.ReferenceIdeal.S_ 32 32768#32))) idx))

theorem ref_apply (whole : FVec Ideal ⟨2, ![32768, 512]⟩ .bf16) {idx : IVec S1024 32} (hf : Fits idx) (p : Fin 1024) (d : Fin 512) :
    refV whole idx (ix2 p d) = whole (ix2 ⟨(idx (ix1 p)).toNat, hf.at p⟩ d) := by
  unfold refV
  have hn := hf.at p
  have hg : broadcastInDim Cert.ReferenceIdeal.S1024x1 ![0] Cert.ReferenceIdeal.Facts₀.bcast_S1024_S1024x1_0
      (select (cmpi .slt idx (broadcastInDim Cert.ReferenceIdeal.S1024 ![] Cert.ReferenceIdeal.Facts₀.bcast_S_S1024 (constantI Cert.ReferenceIdeal.S_ 32 0#32)))
        (addi idx (broadcastInDim Cert.ReferenceIdeal.S1024 ![] Cert.ReferenceIdeal.Facts₀.bcast_S_S1024 (constantI Cert.ReferenceIdeal.S_ 32 32768#32))) idx)
      (ix2 p (0 : Fin 1)) = BitVec.ofNat 32 (idx (ix1 p)).toNat := by
    pointwise
    have e : ¬ IntOp.cmpi .slt (idx (ix1 p)) 0#32 = 1#1 := fun h => by
      have h := (StableHlo.Predicate.slt_iff_toNat (by omega) (by decide)).1 h
      exact absurd h (Nat.not_lt_zero _)
    exact (if_neg e).trans (by rw [BitVec.ofNat_toNat, BitVec.setWidth_eq])
  have h := Routing.gather_row (nb := 32768) (B := 512) (n := 1024)
    Cert.ReferenceIdeal.gather_S32768x512_S1024x1_S1024x512_1_0_n_n_0_1_1512 rfl rfl rfl rfl rfl whole _ p d
    ⟨(idx (ix1 p)).toNat, hn⟩ (by rw [ix2_same]; exact hg) (by decide)
  rw [ix2_same, ix2_same] at h
  exact h

variable (m : (ℓ : Loc nD τ sig) → Buf (Elt Ideal) ℓ)

theorem alike {a a' : Dev nD → Vec Ideal S320x512 .bf16} {b b' : Dev nD → Vec Ideal S8x40 .i32} {c c' : Dev nD → Vec Ideal S8x40 .bf16}
    (ha : a = a') (hb : b = b') (hc : c = c') : (⟨a, b, c⟩ : Input Ideal) = ⟨a', b', c'⟩ := by
  subst ha hb hc; rfl

/-- What the kernel is given, of the arguments. -/
theorem inp_eq (idx : IVec S1024 32) (tab : Dev nD → FVec Ideal S4096x512 .bf16)
    (ht : ∀ c : Dev nD, m ((c.tc : Thread nD τ).loc main_arg0) = tab c) (hi : ∀ c : Dev nD, m ((c.tc : Thread nD τ).loc main_arg1) = idx) :
    inp (enter m) = given idx tab := by
  have h0 : ∀ c, V0 m c main_arg0 = tab c := ht
  have h1 : ∀ c, V0 m c main_arg1 = idx := hi
  unfold inp given
  refine alike (funext fun c => ?_) (funext fun c => ?_) (funext fun c => ?_)
  · exact (v85_eq m c).trans (by rw [h0, h1])
  · exact (v86_eq m c).trans (by rw [h1])
  · exact (v88_eq m c).trans (by rw [h1])

/-- The result of the kernel is the reference's. -/
theorem result (whole : FVec Ideal ⟨2, ![32768, 512]⟩ .bf16) {idx : IVec S1024 32} (hf : Fits idx)
    (ht : ∀ c : Dev nD, m ((c.tc : Thread nD τ).loc main_arg0) = Layout.block ⟨2, ![4096, 512]⟩ ⟨2, ![32768, 512]⟩ 0 8 c whole)
    (hi : ∀ c : Dev nD, m ((c.tc : Thread nD τ).loc main_arg1) = idx) : outV (inp (enter m)) = refV whole idx := by
  rw [inp_eq m idx _ ht hi]
  funext i
  obtain ⟨p, d, rfl⟩ : ∃ (p : Fin 1024) (d : Fin 512), i = ix2 p d := ⟨i 0, i 1, eq_ix2 i⟩
  rw [ref_apply whole hf]
  refine out_eq _ hf whole (fun s r d => ?_) _ _ _ (by rw [BitVec.ofNat_toNat, BitVec.setWidth_eq])
  rw [Layout.block_apply]
  refine congrArg whole (funext fun a => Fin.ext ?_)
  match a with
  | ⟨0, _⟩ => exact (congrArg (· + r.val) (Nat.mul_comm _ _))
  | ⟨1, _⟩ => rfl

end Cert.Lookup
-- ==== Proof.Words.lean ====
/- The kernel over the machine's words and the kernel over the extended reals are one text: the run proved for the second is the first's too. -/
module

public import proofs.«01_k».proof.Proof.Gen.Kernel
public import proofs.«01_k».proof.Proof.Same

@[expose] public section

set_option backward.isDefEq.respectTransparency.types false
set_option backward.isDefEq.respectTransparency false
set_option maxHeartbeats 8000000
set_option maxRecDepth 20000

noncomputable section

namespace Cert.Lookup

open Idealize.ShloMosaic Idealize.SL.Sem

variable {F : FTy → Type} [FloatOps F]

/-- The table of bodies is the same. -/
theorem bodies_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) => rfl

/-- So is the table of everything @main calls. -/
theorem defs_same : Cert.Kernel.defs (F := F) = Cert.KernelIdeal.defs (F := F) := by
  unfold Cert.Kernel.defs Cert.KernelIdeal.defs
  rw [bodies_same]; rfl

/-- Every run of the kernel over the machine's words ends, with the arguments as they were and every semaphore at zero. -/
theorem run_words (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r =>
      (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [defs_same]
  exact (θ_run Cert.KernelIdeal.defs _ _).mono (fun _ h => ⟨fun c => (h.1 c).2, h.2⟩) (run_main (F := Bits) m ρ)

end Cert.Lookup
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Words

@[expose] public section

noncomputable section

namespace Cert.Proof

open Idealize.ShloMosaic Idealize.SL.Sem Cert.Kernel

theorem frame_kernel : Cert.quiescent_Kernel (hKernel := Cert.Kernel.Gen.facts) := fun m ρ _ =>
  Cert.Lookup.run_words m ρ

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.Lookup.run_main (F := Ideal) m ρ)

theorem no_semaphore (g : GSem Cert.ReferenceIdeal.nD Cert.ReferenceIdeal.τ Cert.ReferenceIdeal.sig) : False := by
  obtain ⟨t, sm⟩ := g
  cases sm with
  | reg i => exact Fin.elim0 i
  | dma i => exact Fin.elim0 i

theorem frame_reference : Cert.quiescent_ReferenceIdeal (hReferenceIdeal := Cert.ReferenceIdeal.Gen.facts) := fun m ρ _ =>
  (θ_run Cert.ReferenceIdeal.defs _ _).mono (fun _ h => ⟨fun c => (h c).2, funext fun g => (no_semaphore g).elim⟩) (Cert.ReferenceIdeal.Value.run (F := Ideal) m ρ)

theorem frame_ideal_fit : Cert.quiescent_KernelIdeal_pre_indices_fit_KernelIdeal (hKernelIdeal := Cert.KernelIdeal.Gen.facts)
    (hPre_indices_fit_KernelIdeal := Cert.Lookup.pre_facts) := fun m ρ _ =>
  (θ_run Cert.KernelIdeal.defs _ _).mono (fun _ h => ⟨fun c => (h.1 c).2, h.2⟩) (Cert.Lookup.run_main (F := Ideal) m ρ)

theorem frame_reference_fit : Cert.quiescent_ReferenceIdeal_pre_indices_fit_ReferenceIdeal (hReferenceIdeal := Cert.ReferenceIdeal.Gen.facts)
    (hPre_indices_fit_ReferenceIdeal := Cert.Lookup.pre_facts_reference) := fun m ρ _ =>
  (θ_run Cert.ReferenceIdeal.defs _ _).mono (fun _ h => ⟨fun c => (h c).2, funext fun g => (no_semaphore g).elim⟩) (Cert.ReferenceIdeal.Value.run (F := Ideal) m ρ)

/-- From arguments that fit, every device's result is the reference's. -/
theorem value : Cert.algebraic_KernelIdeal_ReferenceIdeal_pre_indices_fit_KernelIdeal (hKernelIdeal := Cert.KernelIdeal.Gen.facts)
    (hReferenceIdeal := Cert.ReferenceIdeal.Gen.facts) (hPre_indices_fit_KernelIdeal := Cert.Lookup.pre_facts) := by
  intro m ρ m' ρ' hp ha
  have hf := Cert.Lookup.fits _ _ (hp 0).1 (hp 0).2
  rw [(ha 0).2] at hf
  have he := Cert.Lookup.result m _ hf (fun c => (ha c).1) (fun c => (ha c).2)
  refine ⟨Cert.Lookup.outV (Cert.Lookup.inp (Cert.Lookup.enter m)), ?_, ?_⟩
  · exact (θ_run Cert.KernelIdeal.defs _ _).mono (fun _ h => h.1) (Cert.Lookup.run_main (F := Ideal) m ρ)
  · refine (θ_run Cert.ReferenceIdeal.defs _ _).mono (fun _ h => ⟨(h 0).1.trans ?_, (h 0).2⟩) (Cert.ReferenceIdeal.Value.run (F := Ideal) m' ρ')
    exact he.symm

theorem claim : Cert.Claim := ⟨Cert.Kernel.Gen.facts, Cert.KernelIdeal.Gen.facts, Cert.ReferenceIdeal.Gen.facts,
  Cert.Lookup.pre_facts, Cert.Lookup.pre_facts_reference,
  frame_kernel, frame_ideal, frame_ideal_fit, frame_reference, frame_reference_fit, trivial, value⟩

end Cert.Proof

end
